-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S128x2x2944 Cert.KernelIdeal.S128x1x2944
  ∧ IdealRules.bf16_pair.BufferStatement Cert.KernelIdeal.S256x2x128 Cert.KernelIdeal.S256x1x128
  ∧ IdealRules.bf16_pair.BufferStatement Cert.KernelIdeal.S5520x2x128 Cert.KernelIdeal.S5520x1x128
  ∧ IdealRules.bf16_pair.BufferStatement Cert.KernelIdeal.S1472x2x512 Cert.KernelIdeal.S1472x1x512
  ∧ IdealRules.bf16_pair.Statement Cert.KernelIdeal.S256x128 Cert.KernelIdeal.S128x128
  ∧ IdealRules.bf16_pair.Statement Cert.KernelIdeal.S128x2x128 Cert.KernelIdeal.S128x1x128
  ∧ IdealRules.bf16_pair.PackStatement Cert.KernelIdeal.S128x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S16x2x128 Cert.KernelIdeal.S16x1x128
  ∧ IdealRules.bf16_pair.Statement Cert.KernelIdeal.S32x128 Cert.KernelIdeal.S16x128
  ∧ IdealRules.bf16_pair.Statement Cert.KernelIdeal.S128x2x2944 Cert.KernelIdeal.S128x1x2944
  ∧ IdealRules.bf16_pair.Statement Cert.KernelIdeal.S256x2944 Cert.KernelIdeal.S128x2944
  ∧ IdealRules.bf16_pair.Statement Cert.KernelIdeal.S1472x2x512 Cert.KernelIdeal.S1472x1x512
  ∧ IdealRules.bf16_pair.Statement Cert.KernelIdeal.S2944x512 Cert.KernelIdeal.S1472x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2880 : Shape := ⟨3, ![2, 128, 2880]⟩
abbrev S22118400 : Shape := ⟨1, ![22118400]⟩
abbrev S10800 : Shape := ⟨1, ![10800]⟩
abbrev S256x2880 : Shape := ⟨2, ![256, 2880]⟩
abbrev S2880x15x4x128 : Shape := ⟨4, ![2880, 15, 4, 128]⟩
abbrev S256x7680 : Shape := ⟨2, ![256, 7680]⟩
abbrev S2880x1x4x128 : Shape := ⟨4, ![2880, 1, 4, 128]⟩
abbrev S256x512 : Shape := ⟨2, ![256, 512]⟩
abbrev S128x2944 : Shape := ⟨2, ![128, 2944]⟩
abbrev S2x128x128 : Shape := ⟨3, ![2, 128, 128]⟩
abbrev S256x128 : Shape := ⟨2, ![256, 128]⟩
abbrev S5520x128 : Shape := ⟨2, ![5520, 128]⟩
abbrev S1472x512 : Shape := ⟨2, ![1472, 512]⟩
abbrev S2880x128 : Shape := ⟨2, ![2880, 128]⟩
abbrev S256x128x1 : Shape := ⟨3, ![256, 128, 1]⟩
abbrev S128x128 : Shape := ⟨2, ![128, 128]⟩
abbrev S256x64 : Shape := ⟨2, ![256, 64]⟩
abbrev S128 : Shape := ⟨1, ![128]⟩
abbrev S1x128 : Shape := ⟨2, ![1, 128]⟩
abbrev S1x1x128 : Shape := ⟨3, ![1, 1, 128]⟩
abbrev S48 : Shape := ⟨1, ![48]⟩
abbrev S1x48 : Shape := ⟨2, ![1, 48]⟩
abbrev S1x1x48 : Shape := ⟨3, ![1, 1, 48]⟩
abbrev S1x128x128 : Shape := ⟨3, ![1, 128, 128]⟩
abbrev S8x128 : Shape := ⟨2, ![8, 128]⟩
abbrev S8x128x1 : Shape := ⟨3, ![8, 128, 1]⟩
abbrev S2880x4x128 : Shape := ⟨3, ![2880, 4, 128]⟩
abbrev S11520x128 : Shape := ⟨2, ![11520, 128]⟩
abbrev S16x128 : Shape := ⟨2, ![16, 128]⟩
abbrev S32x128 : Shape := ⟨2, ![32, 128]⟩
abbrev S256x2944 : Shape := ⟨2, ![256, 2944]⟩
abbrev S2944x512 : Shape := ⟨2, ![2944, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x128x2880, .bf16⟩
  | .hbm, ⟨1, _⟩ => ⟨S22118400, .i8⟩
  | .hbm, ⟨2, _⟩ => ⟨S10800, .f32⟩
  | .hbm, ⟨3, _⟩ => ⟨S10800, .f32⟩
  | .hbm, ⟨4, _⟩ => ⟨S256x2880, .bf16⟩
  | .hbm, ⟨5, _⟩ => ⟨S2880x15x4x128, .i8⟩
  | .hbm, ⟨6, _⟩ => ⟨S256x7680, .bf16⟩
  | .local _ .vmem, ⟨0, _⟩ => ⟨S256x2880, .bf16⟩
  | .local _ .vmem, ⟨1, _⟩ => ⟨S2880x1x4x128, .i8⟩
  | .local _ .vmem, ⟨2, _⟩ => ⟨S2880x1x4x128, .i8⟩
  | .local _ .vmem, ⟨3, _⟩ => ⟨S10800, .f32⟩
  | .local _ .vmem, ⟨4, _⟩ => ⟨S10800, .f32⟩
  | .local _ .vmem, ⟨5, _⟩ => ⟨S256x512, .bf16⟩
  | .local _ .vmem, ⟨6, _⟩ => ⟨S256x512, .bf16⟩
  | .local _ .vmem, ⟨7, _⟩ => ⟨S128x2944, .i32⟩
  | .local _ .vmem, ⟨8, _⟩ => ⟨S2x128x128, .f32⟩
  | .local _ .vmem, ⟨9, _⟩ => ⟨S256x128, .i32⟩
  | .local _ .vmem, ⟨10, _⟩ => ⟨S5520x128, .i32⟩
  | .local _ .vmem, ⟨11, _⟩ => ⟨S5520x128, .i32⟩
  | .local _ .vmem, ⟨12, _⟩ => ⟨S1472x512, .i32⟩
  | .local _ .vmem, ⟨13, _⟩ => ⟨S2880x128, .i32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c22_i32 : BitVec 32 := 22#32
  let v33 : BitVec 32 := Scalar.addi c0_i32_14 c22_i32
  let c1_i32_15 : BitVec 32 := 1#32
  ⟨c0_i32_14, v33, c1_i32_15⟩
def k0_mult1 (k0_t1 : Fin k0_t1_loop.trips) : BitVec 32 :=
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  v82
def k0_off1 (k0_t1 : Fin k0_t1_loop.trips) : Fin 2 → Nat :=
  let c0_47 : Index := 0#32
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  let v83 : BitVec 32 := v82
  let v84 : Index := Scalar.indexCast v83
  ![0, v84.toNat]
def k0_off2 (k0_t1 : Fin k0_t1_loop.trips) : Fin 2 → Nat :=
  let c0_50 : Index := 0#32
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  let v83 : BitVec 32 := v82
  let v98 : Index := Scalar.indexCast v83
  ![0, v98.toNat]
@[reducible] def k0_t2_loop : Scf.Loop 32 :=
  let c0_i32_26 : BitVec 32 := 0#32
  let c84_i32 : BitVec 32 := 84#32
  let v56 : BitVec 32 := Scalar.addi c0_i32_26 c84_i32
  let c1_i32_27 : BitVec 32 := 1#32
  ⟨c0_i32_26, v56, c1_i32_27⟩
def k0_off3 (k0_t2 : Fin k0_t2_loop.trips) : Fin 1 → Nat :=
  let c0_i32_26 : BitVec 32 := 0#32
  let c1_i32_27 : BitVec 32 := 1#32
  let arg13 : BitVec 32 := Scf.iv c0_i32_26 c1_i32_27 k0_t2
  let c128_i32_46 : BitVec 32 := 128#32
  let v82 : BitVec 32 := Scalar.muli arg13 c128_i32_46
  let v83 : Index := Scalar.indexCast v82
  ![v83.toNat]
def k0_off4 (k0_t2 : Fin k0_t2_loop.trips) : Fin 3 → Nat :=
  let c0_47 : Index := 0#32
  let c0_i32_26 : BitVec 32 := 0#32
  let c1_i32_27 : BitVec 32 := 1#32
  let arg13 : BitVec 32 := Scf.iv c0_i32_26 c1_i32_27 k0_t2
  let v86 : Index := Scalar.indexCast arg13
  let c0_48 : Index := 0#32
  ![0, v86.toNat, 0]
def k0_off5 (k0_t2 : Fin k0_t2_loop.trips) : Fin 3 → Nat :=
  let c1_50 : Index := 1#32
  let c0_i32_26 : BitVec 32 := 0#32
  let c1_i32_27 : BitVec 32 := 1#32
  let arg13 : BitVec 32 := Scf.iv c0_i32_26 c1_i32_27 k0_t2
  let v94 : Index := Scalar.indexCast arg13
  let c0_51 : Index := 0#32
  ![1, v94.toNat, 0]
@[reducible] def k0_t3_loop : Scf.Loop 32 :=
  let c0_i32_43 : BitVec 32 := 0#32
  let c345_i32 : BitVec 32 := 345#32
  let v81 : BitVec 32 := Scalar.addi c0_i32_43 c345_i32
  let c1_i32_44 : BitVec 32 := 1#32
  ⟨c0_i32_43, v81, c1_i32_44⟩
def k0_off6 (k0_t3 : Fin k0_t3_loop.trips) (c0_i32_47 : BitVec 32) : Fin 2 → Nat :=
  let c15_i32_48 : BitVec 32 := 15#32
  let c32_i32 : BitVec 32 := 32#32
  let c0_i32_43 : BitVec 32 := 0#32
  let c1_i32_44 : BitVec 32 := 1#32
  let arg13 : BitVec 32 := Scf.iv c0_i32_43 c1_i32_44 k0_t3
  let c15_i32 : BitVec 32 := 15#32
  let v82 : BitVec 32 := Scalar.divsi arg13 c15_i32
  let v84 : BitVec 32 := Scalar.muli c32_i32 v82
  let v85 : BitVec 32 := Scalar.addi v84 c0_i32_47
  let v86 : BitVec 32 := Scalar.muli c15_i32_48 v85
  let c15_i32_46 : BitVec 32 := 15#32
  let v83 : BitVec 32 := Scalar.remsi arg13 c15_i32_46
  let v87 : BitVec 32 := Scalar.addi v86 v83
  let c127_i32_49 : BitVec 32 := 127#32
  let v88 : BitVec 32 := Scalar.andi v87 c127_i32_49
  let v90 : Index := Scalar.indexCast v88
  let c0_50 : Index := 0#32
  ![v90.toNat, 0]
def k0_off7 (k0_t3 : Fin k0_t3_loop.trips) (c0_i32_94 : BitVec 32) : Fin 2 → Nat :=
  let c0_i32_43 : BitVec 32 := 0#32
  let c1_i32_44 : BitVec 32 := 1#32
  let arg13 : BitVec 32 := Scf.iv c0_i32_43 c1_i32_44 k0_t3
  let c15_i32_46 : BitVec 32 := 15#32
  let v83 : BitVec 32 := Scalar.remsi arg13 c15_i32_46
  let c23_i32 : BitVec 32 := 23#32
  let v222 : BitVec 32 := Scalar.muli v83 c23_i32
  let c15_i32 : BitVec 32 := 15#32
  let v82 : BitVec 32 := Scalar.divsi arg13 c15_i32
  let v223 : BitVec 32 := Scalar.addi v222 v82
  let c16_i32_93 : BitVec 32 := 16#32
  let v224 : BitVec 32 := Scalar.muli v223 c16_i32_93
  let v225 : BitVec 32 := Scalar.addi v224 c0_i32_94
  let v226 : Index := Scalar.indexCast v225
  let c0_95 : Index := 0#32
  ![v226.toNat, 0]
@[reducible] def k0_t4_loop : Scf.Loop 32 :=
  let c0_i32_6 : BitVec 32 := 0#32
  let c92_i32 : BitVec 32 := 92#32
  let v10 : BitVec 32 := Scalar.addi c0_i32_6 c92_i32
  let c1_i32 : BitVec 32 := 1#32
  ⟨c0_i32_6, v10, c1_i32⟩
def k0_off8 (k0_t4 : Fin k0_t4_loop.trips) (c0_i32_15 : BitVec 32) : Fin 2 → Nat :=
  let c128_i32 : BitVec 32 := 128#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v23 : BitVec 32 := Scalar.muli c128_i32 v18
  let v24 : BitVec 32 := Scalar.addi v23 c0_i32_15
  let c3_i32 : BitVec 32 := 3#32
  let v19 : BitVec 32 := Scalar.andi arg13 c3_i32
  let v25 : BitVec 32 := Scalar.addi v24 v19
  let c28_i32 : BitVec 32 := 28#32
  let v26 : BitVec 32 := Scalar.addi v25 c28_i32
  let c2880_i32 : BitVec 32 := 2880#32
  let v27 : BitVec 1 := Scalar.cmpi .sge v26 c2880_i32
  let c128_i32_16 : BitVec 32 := 128#32
  let v28 : BitVec 32 := Scalar.muli c128_i32_16 v18
  let v29 : BitVec 32 := Scalar.addi v28 v19
  let v30 : BitVec 32 := Scalar.select v27 v29 v25
  let v31 : Index := Scalar.indexCast v30
  let c0_17 : Index := 0#32
  ![v31.toNat, 0]
def k0_mult2 (i : grid0.Coords) (k0_t4 : Fin k0_t4_loop.trips) : BitVec 32 :=
  let c15_i32 : BitVec 32 := 15#32
  let c0_i32_6 : BitVec 32 := 0#32
  let c1_i32 : BitVec 32 := 1#32
  let arg13 : BitVec 32 := Scf.iv c0_i32_6 c1_i32 k0_t4
  let c3_i32 : BitVec 32 := 3#32
  let v19 : BitVec 32 := Scalar.andi arg13 c3_i32
  let v20 : BitVec 32 := Scalar.muli c15_i32 v19
  let arg0 : BitVec 32 := BitVec.ofNat 32 (i 0).val
  let v21 : BitVec 32 := Scalar.addi v20 arg0
  let c2_i32_14 : BitVec 32 := 2#32
  let v22 : BitVec 32 := Scalar.shrsi v21 c2_i32_14
  let c23_i32 : BitVec 32 := 23#32
  let v83 : BitVec 32 := Scalar.muli v22 c23_i32
  let c2_i32 : BitVec 32 := 2#32
  let v18 : BitVec 32 := Scalar.shrsi arg13 c2_i32
  let v84 : BitVec 32 := Scalar.addi v83 v18
  let c16_i32_38 : BitVec 32 := 16#32
  let v85 : BitVec 32 := Scalar.muli v84 c16_i32_38
  v85
def k0_off9 (i : grid0.Coords) (k0_t4 : Fin k0_t4_loop.trips) : Fin 2 → Nat :=
  let c15_i32 : BitVec 32 := 15#32
  let c0_i32_6 : BitVec 32 := 0#32
  let c1_i32 : BitVec 32 := 1#32
  let arg13 : BitVec 32 := Scf.iv c0_i32_6 c1_i32 k0_t4
  let c3_i32 : BitVec 32 := 3#32
  let v19 : BitVec 32 := Scalar.andi arg13 c3_i32
  let v20 : BitVec 32 := Scalar.muli c15_i32 v19
  let arg0 : BitVec 32 := BitVec.ofNat 32 (i 0).val
  let v21 : BitVec 32 := Scalar.addi v20 arg0
  let c2_i32_14 : BitVec 32 := 2#32
  let v22 : BitVec 32 := Scalar.shrsi v21 c2_i32_14
  let c23_i32 : BitVec 32 := 23#32
  let v83 : BitVec 32 := Scalar.muli v22 c23_i32
  let c2_i32 : BitVec 32 := 2#32
  let v18 : BitVec 32 := Scalar.shrsi arg13 c2_i32
  let v84 : BitVec 32 := Scalar.addi v83 v18
  let c16_i32_38 : BitVec 32 := 16#32
  let v85 : BitVec 32 := Scalar.muli v84 c16_i32_38
  let v86 : BitVec 32 := v85
  let v87 : Index := Scalar.indexCast v86
  let c0_39 : Index := 0#32
  ![v87.toNat, 0]
def k0_mult3 (k0_t4 : Fin k0_t4_loop.trips) : BitVec 32 :=
  let c64_i32_42 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v102 : BitVec 32 := Scalar.muli c64_i32_42 v18
  let c16_i32_43 : BitVec 32 := 16#32
  let c3_i32 : BitVec 32 := 3#32
  let v19 : BitVec 32 := Scalar.andi arg13 c3_i32
  let v103 : BitVec 32 := Scalar.muli c16_i32_43 v19
  let v104 : BitVec 32 := Scalar.addi v102 v103
  v104
def k0_off10 (k0_t4 : Fin k0_t4_loop.trips) : Fin 2 → Nat :=
  let c64_i32_42 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v102 : BitVec 32 := Scalar.muli c64_i32_42 v18
  let c16_i32_43 : BitVec 32 := 16#32
  let c3_i32 : BitVec 32 := 3#32
  let v19 : BitVec 32 := Scalar.andi arg13 c3_i32
  let v103 : BitVec 32 := Scalar.muli c16_i32_43 v19
  let v104 : BitVec 32 := Scalar.addi v102 v103
  let v105 : BitVec 32 := v104
  let v109 : Index := Scalar.indexCast v105
  let c0_44 : Index := 0#32
  ![v109.toNat, 0]
def k0_mult4 (k0_t4 : Fin k0_t4_loop.trips) : BitVec 32 :=
  let c64_i32_50 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v126 : BitVec 32 := Scalar.muli c64_i32_50 v18
  let c16_i32_51 : BitVec 32 := 16#32
  let c3_i32 : BitVec 32 := 3#32
  let v19 : BitVec 32 := Scalar.andi arg13 c3_i32
  let v127 : BitVec 32 := Scalar.muli c16_i32_51 v19
  let v128 : BitVec 32 := Scalar.addi v126 v127
  v128
def k0_off11 (k0_t4 : Fin k0_t4_loop.trips) : Fin 2 → Nat :=
  let c64_i32_50 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v126 : BitVec 32 := Scalar.muli c64_i32_50 v18
  let c16_i32_51 : BitVec 32 := 16#32
  let c3_i32 : BitVec 32 := 3#32
  let v19 : BitVec 32 := Scalar.andi arg13 c3_i32
  let v127 : BitVec 32 := Scalar.muli c16_i32_51 v19
  let v128 : BitVec 32 := Scalar.addi v126 v127
  let v129 : BitVec 32 := v128
  let v133 : Index := Scalar.indexCast v129
  let c128 : Index := 128#32
  ![v133.toNat, 128]
def k0_mult5 (k0_t4 : Fin k0_t4_loop.trips) : BitVec 32 :=
  let c64_i32_55 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v146 : BitVec 32 := Scalar.muli c64_i32_55 v18
  let c16_i32_56 : BitVec 32 := 16#32
  let c3_i32 : BitVec 32 := 3#32
  let v19 : BitVec 32 := Scalar.andi arg13 c3_i32
  let v147 : BitVec 32 := Scalar.muli c16_i32_56 v19
  let v148 : BitVec 32 := Scalar.addi v146 v147
  v148
def k0_off12 (k0_t4 : Fin k0_t4_loop.trips) : Fin 2 → Nat :=
  let c64_i32_55 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v146 : BitVec 32 := Scalar.muli c64_i32_55 v18
  let c16_i32_56 : BitVec 32 := 16#32
  let c3_i32 : BitVec 32 := 3#32
  let v19 : BitVec 32 := Scalar.andi arg13 c3_i32
  let v147 : BitVec 32 := Scalar.muli c16_i32_56 v19
  let v148 : BitVec 32 := Scalar.addi v146 v147
  let v149 : BitVec 32 := v148
  let v153 : Index := Scalar.indexCast v149
  let c256 : Index := 256#32
  ![v153.toNat, 256]
def k0_mult6 (k0_t4 : Fin k0_t4_loop.trips) : BitVec 32 :=
  let c64_i32_62 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v170 : BitVec 32 := Scalar.muli c64_i32_62 v18
  let c16_i32_63 : BitVec 32 := 16#32
  let c3_i32 : BitVec 32 := 3#32
  let v19 : BitVec 32 := Scalar.andi arg13 c3_i32
  let v171 : BitVec 32 := Scalar.muli c16_i32_63 v19
  let v172 : BitVec 32 := Scalar.addi v170 v171
  v172
def k0_off13 (k0_t4 : Fin k0_t4_loop.trips) : Fin 2 → Nat :=
  let c64_i32_62 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v170 : BitVec 32 := Scalar.muli c64_i32_62 v18
  let c16_i32_63 : BitVec 32 := 16#32
  let c3_i32 : BitVec 32 := 3#32
  let v19 : BitVec 32 := Scalar.andi arg13 c3_i32
  let v171 : BitVec 32 := Scalar.muli c16_i32_63 v19
  let v172 : BitVec 32 := Scalar.addi v170 v171
  let v173 : BitVec 32 := v172
  let v177 : Index := Scalar.indexCast v173
  let c384 : Index := 384#32
  ![v177.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x1x4x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S2x128x2880 : Shape := ⟨3, ![2, 128, 2880]⟩
abbrev S22118400 : Shape := ⟨1, ![22118400]⟩
abbrev S10800 : Shape := ⟨1, ![10800]⟩
abbrev S256x2880 : Shape := ⟨2, ![256, 2880]⟩
abbrev S2880x15x4x128 : Shape := ⟨4, ![2880, 15, 4, 128]⟩
abbrev S256x7680 : Shape := ⟨2, ![256, 7680]⟩
abbrev S2880x1x4x128 : Shape := ⟨4, ![2880, 1, 4, 128]⟩
abbrev S256x512 : Shape := ⟨2, ![256, 512]⟩
abbrev S128x2944 : Shape := ⟨2, ![128, 2944]⟩
abbrev S128x2x2944 : Shape := ⟨3, ![128, 2, 2944]⟩
abbrev S128x1x2944 : Shape := ⟨3, ![128, 1, 2944]⟩
abbrev S2x128x128 : Shape := ⟨3, ![2, 128, 128]⟩
abbrev S256x128 : Shape := ⟨2, ![256, 128]⟩
abbrev S256x2x128 : Shape := ⟨3, ![256, 2, 128]⟩
abbrev S256x1x128 : Shape := ⟨3, ![256, 1, 128]⟩
abbrev S5520x128 : Shape := ⟨2, ![5520, 128]⟩
abbrev S5520x2x128 : Shape := ⟨3, ![5520, 2, 128]⟩
abbrev S5520x1x128 : Shape := ⟨3, ![5520, 1, 128]⟩
abbrev S1472x512 : Shape := ⟨2, ![1472, 512]⟩
abbrev S1472x2x512 : Shape := ⟨3, ![1472, 2, 512]⟩
abbrev S1472x1x512 : Shape := ⟨3, ![1472, 1, 512]⟩
abbrev S2880x128 : Shape := ⟨2, ![2880, 128]⟩
abbrev S256x128x1 : Shape := ⟨3, ![256, 128, 1]⟩
abbrev S128x128 : Shape := ⟨2, ![128, 128]⟩
abbrev S128x2x128 : Shape := ⟨3, ![128, 2, 128]⟩
abbrev S128x1x128 : Shape := ⟨3, ![128, 1, 128]⟩
abbrev S256x64 : Shape := ⟨2, ![256, 64]⟩
abbrev S128 : Shape := ⟨1, ![128]⟩
abbrev S1x128 : Shape := ⟨2, ![1, 128]⟩
abbrev S1x1x128 : Shape := ⟨3, ![1, 1, 128]⟩
abbrev S48 : Shape := ⟨1, ![48]⟩
abbrev S1x48 : Shape := ⟨2, ![1, 48]⟩
abbrev S1x1x48 : Shape := ⟨3, ![1, 1, 48]⟩
abbrev S1x128x128 : Shape := ⟨3, ![1, 128, 128]⟩
abbrev S8x128 : Shape := ⟨2, ![8, 128]⟩
abbrev S8x2x128 : Shape := ⟨3, ![8, 2, 128]⟩
abbrev S8x1x128 : Shape := ⟨3, ![8, 1, 128]⟩
abbrev S16x128 : Shape := ⟨2, ![16, 128]⟩
abbrev S8x128x1 : Shape := ⟨3, ![8, 128, 1]⟩
abbrev S2880x4x128 : Shape := ⟨3, ![2880, 4, 128]⟩
abbrev S11520x128 : Shape := ⟨2, ![11520, 128]⟩
abbrev S16x2x128 : Shape := ⟨3, ![16, 2, 128]⟩
abbrev S16x1x128 : Shape := ⟨3, ![16, 1, 128]⟩
abbrev S32x128 : Shape := ⟨2, ![32, 128]⟩
abbrev S256x2944 : Shape := ⟨2, ![256, 2944]⟩
abbrev S2944x512 : Shape := ⟨2, ![2944, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x128x2880, .bf16⟩
  | .hbm, ⟨1, _⟩ => ⟨S22118400, .i8⟩
  | .hbm, ⟨2, _⟩ => ⟨S10800, .f32⟩
  | .hbm, ⟨3, _⟩ => ⟨S10800, .f32⟩
  | .hbm, ⟨4, _⟩ => ⟨S256x2880, .bf16⟩
  | .hbm, ⟨5, _⟩ => ⟨S2880x15x4x128, .i8⟩
  | .hbm, ⟨6, _⟩ => ⟨S256x7680, .bf16⟩
  | .local _ .vmem, ⟨0, _⟩ => ⟨S256x2880, .bf16⟩
  | .local _ .vmem, ⟨1, _⟩ => ⟨S2880x1x4x128, .i8⟩
  | .local _ .vmem, ⟨2, _⟩ => ⟨S2880x1x4x128, .i8⟩
  | .local _ .vmem, ⟨3, _⟩ => ⟨S10800, .f32⟩
  | .local _ .vmem, ⟨4, _⟩ => ⟨S10800, .f32⟩
  | .local _ .vmem, ⟨5, _⟩ => ⟨S256x512, .bf16⟩
  | .local _ .vmem, ⟨6, _⟩ => ⟨S256x512, .bf16⟩
  | .local _ .vmem, ⟨7, _⟩ => ⟨S128x2x2944, .bf16⟩
  | .local _ .vmem, ⟨8, _⟩ => ⟨S2x128x128, .f32⟩
  | .local _ .vmem, ⟨9, _⟩ => ⟨S256x2x128, .bf16⟩
  | .local _ .vmem, ⟨10, _⟩ => ⟨S5520x2x128, .bf16⟩
  | .local _ .vmem, ⟨11, _⟩ => ⟨S5520x2x128, .bf16⟩
  | .local _ .vmem, ⟨12, _⟩ => ⟨S1472x2x512, .bf16⟩
  | .local _ .vmem, ⟨13, _⟩ => ⟨S2880x128, .i32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c22_i32 : BitVec 32 := 22#32
  let v33 : BitVec 32 := Scalar.addi c0_i32_14 c22_i32
  let c1_i32_15 : BitVec 32 := 1#32
  ⟨c0_i32_14, v33, c1_i32_15⟩
def k0_mult1 (k0_t1 : Fin k0_t1_loop.trips) : BitVec 32 :=
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  v82
def k0_off1 (k0_t1 : Fin k0_t1_loop.trips) : Fin 2 → Nat :=
  let c0_47 : Index := 0#32
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  let v83 : BitVec 32 := v82
  let v84 : Index := Scalar.indexCast v83
  ![0, v84.toNat]
def k0_off2 (k0_t1 : Fin k0_t1_loop.trips) : Fin 3 → Nat :=
  let c0_50 : Index := 0#32
  let c0_i32_14 : BitVec 32 := 0#32
  let c1_i32_15 : BitVec 32 := 1#32
  let arg13 : BitVec 32 := Scf.iv c0_i32_14 c1_i32_15 k0_t1
  let c128_i32_46 : BitVec 32 := 128#32
  let v82 : BitVec 32 := Scalar.muli arg13 c128_i32_46
  let v83 : BitVec 32 := v82
  let v98 : Index := Scalar.indexCast v83
  ![0, 0, v98.toNat]
@[reducible] def k0_t2_loop : Scf.Loop 32 :=
  let c0_i32_26 : BitVec 32 := 0#32
  let c84_i32 : BitVec 32 := 84#32
  let v56 : BitVec 32 := Scalar.addi c0_i32_26 c84_i32
  let c1_i32_27 : BitVec 32 := 1#32
  ⟨c0_i32_26, v56, c1_i32_27⟩
def k0_off3 (k0_t2 : Fin k0_t2_loop.trips) : Fin 1 → Nat :=
  let c0_i32_26 : BitVec 32 := 0#32
  let c1_i32_27 : BitVec 32 := 1#32
  let arg13 : BitVec 32 := Scf.iv c0_i32_26 c1_i32_27 k0_t2
  let c128_i32_46 : BitVec 32 := 128#32
  let v82 : BitVec 32 := Scalar.muli arg13 c128_i32_46
  let v83 : Index := Scalar.indexCast v82
  ![v83.toNat]
def k0_off4 (k0_t2 : Fin k0_t2_loop.trips) : Fin 3 → Nat :=
  let c0_47 : Index := 0#32
  let c0_i32_26 : BitVec 32 := 0#32
  let c1_i32_27 : BitVec 32 := 1#32
  let arg13 : BitVec 32 := Scf.iv c0_i32_26 c1_i32_27 k0_t2
  let v86 : Index := Scalar.indexCast arg13
  let c0_48 : Index := 0#32
  ![0, v86.toNat, 0]
def k0_off5 (k0_t2 : Fin k0_t2_loop.trips) : Fin 3 → Nat :=
  let c1_50 : Index := 1#32
  let c0_i32_26 : BitVec 32 := 0#32
  let c1_i32_27 : BitVec 32 := 1#32
  let arg13 : BitVec 32 := Scf.iv c0_i32_26 c1_i32_27 k0_t2
  let v94 : Index := Scalar.indexCast arg13
  let c0_51 : Index := 0#32
  ![1, v94.toNat, 0]
@[reducible] def k0_t3_loop : Scf.Loop 32 :=
  let c0_i32_43 : BitVec 32 := 0#32
  let c345_i32 : BitVec 32 := 345#32
  let v81 : BitVec 32 := Scalar.addi c0_i32_43 c345_i32
  let c1_i32_44 : BitVec 32 := 1#32
  ⟨c0_i32_43, v81, c1_i32_44⟩
def k0_off6 (k0_t3 : Fin k0_t3_loop.trips) (c0_i32_47 : BitVec 32) : Fin 3 → Nat :=
  let c15_i32_48 : BitVec 32 := 15#32
  let c32_i32 : BitVec 32 := 32#32
  let c0_i32_43 : BitVec 32 := 0#32
  let c1_i32_44 : BitVec 32 := 1#32
  let arg13 : BitVec 32 := Scf.iv c0_i32_43 c1_i32_44 k0_t3
  let c15_i32 : BitVec 32 := 15#32
  let v82 : BitVec 32 := Scalar.divsi arg13 c15_i32
  let v84 : BitVec 32 := Scalar.muli c32_i32 v82
  let v85 : BitVec 32 := Scalar.addi v84 c0_i32_47
  let v86 : BitVec 32 := Scalar.muli c15_i32_48 v85
  let c15_i32_46 : BitVec 32 := 15#32
  let v83 : BitVec 32 := Scalar.remsi arg13 c15_i32_46
  let v87 : BitVec 32 := Scalar.addi v86 v83
  let c127_i32_49 : BitVec 32 := 127#32
  let v88 : BitVec 32 := Scalar.andi v87 c127_i32_49
  let v90 : Index := Scalar.indexCast v88
  let c0_50 : Index := 0#32
  ![v90.toNat, 0, 0]
def k0_off7 (k0_t3 : Fin k0_t3_loop.trips) (c0_i32_94 : BitVec 32) : Fin 3 → Nat :=
  let c0_i32_43 : BitVec 32 := 0#32
  let c1_i32_44 : BitVec 32 := 1#32
  let arg13 : BitVec 32 := Scf.iv c0_i32_43 c1_i32_44 k0_t3
  let c15_i32_46 : BitVec 32 := 15#32
  let v83 : BitVec 32 := Scalar.remsi arg13 c15_i32_46
  let c23_i32 : BitVec 32 := 23#32
  let v222 : BitVec 32 := Scalar.muli v83 c23_i32
  let c15_i32 : BitVec 32 := 15#32
  let v82 : BitVec 32 := Scalar.divsi arg13 c15_i32
  let v223 : BitVec 32 := Scalar.addi v222 v82
  let c16_i32_93 : BitVec 32 := 16#32
  let v224 : BitVec 32 := Scalar.muli v223 c16_i32_93
  let v225 : BitVec 32 := Scalar.addi v224 c0_i32_94
  let v226 : Index := Scalar.indexCast v225
  let c0_95 : Index := 0#32
  ![v226.toNat, 0, 0]
@[reducible] def k0_t4_loop : Scf.Loop 32 :=
  let c0_i32_6 : BitVec 32 := 0#32
  let c92_i32 : BitVec 32 := 92#32
  let v10 : BitVec 32 := Scalar.addi c0_i32_6 c92_i32
  let c1_i32 : BitVec 32 := 1#32
  ⟨c0_i32_6, v10, c1_i32⟩
def k0_off8 (k0_t4 : Fin k0_t4_loop.trips) (c0_i32_15 : BitVec 32) : Fin 2 → Nat :=
  let c128_i32 : BitVec 32 := 128#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v23 : BitVec 32 := Scalar.muli c128_i32 v18
  let v24 : BitVec 32 := Scalar.addi v23 c0_i32_15
  let c3_i32 : BitVec 32 := 3#32
  let v19 : BitVec 32 := Scalar.andi arg13 c3_i32
  let v25 : BitVec 32 := Scalar.addi v24 v19
  let c28_i32 : BitVec 32 := 28#32
  let v26 : BitVec 32 := Scalar.addi v25 c28_i32
  let c2880_i32 : BitVec 32 := 2880#32
  let v27 : BitVec 1 := Scalar.cmpi .sge v26 c2880_i32
  let c128_i32_16 : BitVec 32 := 128#32
  let v28 : BitVec 32 := Scalar.muli c128_i32_16 v18
  let v29 : BitVec 32 := Scalar.addi v28 v19
  let v30 : BitVec 32 := Scalar.select v27 v29 v25
  let v31 : Index := Scalar.indexCast v30
  let c0_17 : Index := 0#32
  ![v31.toNat, 0]
def k0_mult2 (i : grid0.Coords) (k0_t4 : Fin k0_t4_loop.trips) : BitVec 32 :=
  let c15_i32 : BitVec 32 := 15#32
  let c0_i32_6 : BitVec 32 := 0#32
  let c1_i32 : BitVec 32 := 1#32
  let arg13 : BitVec 32 := Scf.iv c0_i32_6 c1_i32 k0_t4
  let c3_i32 : BitVec 32 := 3#32
  let v19 : BitVec 32 := Scalar.andi arg13 c3_i32
  let v20 : BitVec 32 := Scalar.muli c15_i32 v19
  let arg0 : BitVec 32 := BitVec.ofNat 32 (i 0).val
  let v21 : BitVec 32 := Scalar.addi v20 arg0
  let c2_i32_14 : BitVec 32 := 2#32
  let v22 : BitVec 32 := Scalar.shrsi v21 c2_i32_14
  let c23_i32 : BitVec 32 := 23#32
  let v83 : BitVec 32 := Scalar.muli v22 c23_i32
  let c2_i32 : BitVec 32 := 2#32
  let v18 : BitVec 32 := Scalar.shrsi arg13 c2_i32
  let v84 : BitVec 32 := Scalar.addi v83 v18
  let c16_i32_38 : BitVec 32 := 16#32
  let v85 : BitVec 32 := Scalar.muli v84 c16_i32_38
  v85
def k0_off9 (i : grid0.Coords) (k0_t4 : Fin k0_t4_loop.trips) : Fin 3 → Nat :=
  let c15_i32 : BitVec 32 := 15#32
  let c0_i32_6 : BitVec 32 := 0#32
  let c1_i32 : BitVec 32 := 1#32
  let arg13 : BitVec 32 := Scf.iv c0_i32_6 c1_i32 k0_t4
  let c3_i32 : BitVec 32 := 3#32
  let v19 : BitVec 32 := Scalar.andi arg13 c3_i32
  let v20 : BitVec 32 := Scalar.muli c15_i32 v19
  let arg0 : BitVec 32 := BitVec.ofNat 32 (i 0).val
  let v21 : BitVec 32 := Scalar.addi v20 arg0
  let c2_i32_14 : BitVec 32 := 2#32
  let v22 : BitVec 32 := Scalar.shrsi v21 c2_i32_14
  let c23_i32 : BitVec 32 := 23#32
  let v83 : BitVec 32 := Scalar.muli v22 c23_i32
  let c2_i32 : BitVec 32 := 2#32
  let v18 : BitVec 32 := Scalar.shrsi arg13 c2_i32
  let v84 : BitVec 32 := Scalar.addi v83 v18
  let c16_i32_38 : BitVec 32 := 16#32
  let v85 : BitVec 32 := Scalar.muli v84 c16_i32_38
  let v86 : BitVec 32 := v85
  let v87 : Index := Scalar.indexCast v86
  let c0_39 : Index := 0#32
  ![v87.toNat, 0, 0]
def k0_mult3 (k0_t4 : Fin k0_t4_loop.trips) : BitVec 32 :=
  let c64_i32_42 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v102 : BitVec 32 := Scalar.muli c64_i32_42 v18
  let c16_i32_43 : BitVec 32 := 16#32
  let c3_i32 : BitVec 32 := 3#32
  let v19 : BitVec 32 := Scalar.andi arg13 c3_i32
  let v103 : BitVec 32 := Scalar.muli c16_i32_43 v19
  let v104 : BitVec 32 := Scalar.addi v102 v103
  v104
def k0_off10 (k0_t4 : Fin k0_t4_loop.trips) : Fin 3 → Nat :=
  let c64_i32_42 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v102 : BitVec 32 := Scalar.muli c64_i32_42 v18
  let c16_i32_43 : BitVec 32 := 16#32
  let c3_i32 : BitVec 32 := 3#32
  let v19 : BitVec 32 := Scalar.andi arg13 c3_i32
  let v103 : BitVec 32 := Scalar.muli c16_i32_43 v19
  let v104 : BitVec 32 := Scalar.addi v102 v103
  let v105 : BitVec 32 := v104
  let v109 : Index := Scalar.indexCast v105
  let c0_44 : Index := 0#32
  ![v109.toNat, 0, 0]
def k0_mult4 (k0_t4 : Fin k0_t4_loop.trips) : BitVec 32 :=
  let c64_i32_50 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v126 : BitVec 32 := Scalar.muli c64_i32_50 v18
  let c16_i32_51 : BitVec 32 := 16#32
  let c3_i32 : BitVec 32 := 3#32
  let v19 : BitVec 32 := Scalar.andi arg13 c3_i32
  let v127 : BitVec 32 := Scalar.muli c16_i32_51 v19
  let v128 : BitVec 32 := Scalar.addi v126 v127
  v128
def k0_off11 (k0_t4 : Fin k0_t4_loop.trips) : Fin 3 → Nat :=
  let c64_i32_50 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v126 : BitVec 32 := Scalar.muli c64_i32_50 v18
  let c16_i32_51 : BitVec 32 := 16#32
  let c3_i32 : BitVec 32 := 3#32
  let v19 : BitVec 32 := Scalar.andi arg13 c3_i32
  let v127 : BitVec 32 := Scalar.muli c16_i32_51 v19
  let v128 : BitVec 32 := Scalar.addi v126 v127
  let v129 : BitVec 32 := v128
  let v133 : Index := Scalar.indexCast v129
  let c128 : Index := 128#32
  ![v133.toNat, 0, 128]
def k0_mult5 (k0_t4 : Fin k0_t4_loop.trips) : BitVec 32 :=
  let c64_i32_55 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v146 : BitVec 32 := Scalar.muli c64_i32_55 v18
  let c16_i32_56 : BitVec 32 := 16#32
  let c3_i32 : BitVec 32 := 3#32
  let v19 : BitVec 32 := Scalar.andi arg13 c3_i32
  let v147 : BitVec 32 := Scalar.muli c16_i32_56 v19
  let v148 : BitVec 32 := Scalar.addi v146 v147
  v148
def k0_off12 (k0_t4 : Fin k0_t4_loop.trips) : Fin 3 → Nat :=
  let c64_i32_55 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v146 : BitVec 32 := Scalar.muli c64_i32_55 v18
  let c16_i32_56 : BitVec 32 := 16#32
  let c3_i32 : BitVec 32 := 3#32
  let v19 : BitVec 32 := Scalar.andi arg13 c3_i32
  let v147 : BitVec 32 := Scalar.muli c16_i32_56 v19
  let v148 : BitVec 32 := Scalar.addi v146 v147
  let v149 : BitVec 32 := v148
  let v153 : Index := Scalar.indexCast v149
  let c256 : Index := 256#32
  ![v153.toNat, 0, 256]
def k0_mult6 (k0_t4 : Fin k0_t4_loop.trips) : BitVec 32 :=
  let c64_i32_62 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v170 : BitVec 32 := Scalar.muli c64_i32_62 v18
  let c16_i32_63 : BitVec 32 := 16#32
  let c3_i32 : BitVec 32 := 3#32
  let v19 : BitVec 32 := Scalar.andi arg13 c3_i32
  let v171 : BitVec 32 := Scalar.muli c16_i32_63 v19
  let v172 : BitVec 32 := Scalar.addi v170 v171
  v172
def k0_off13 (k0_t4 : Fin k0_t4_loop.trips) : Fin 3 → Nat :=
  let c64_i32_62 : BitVec 32 := 64#32
  let c0_i32_6 : BitVec 32 := 0#32
  let c1_i32 : BitVec 32 := 1#32
  let arg13 : BitVec 32 := Scf.iv c0_i32_6 c1_i32 k0_t4
  let c2_i32 : BitVec 32 := 2#32
  let v18 : BitVec 32 := Scalar.shrsi arg13 c2_i32
  let v170 : BitVec 32 := Scalar.muli c64_i32_62 v18
  let c16_i32_63 : BitVec 32 := 16#32
  let c3_i32 : BitVec 32 := 3#32
  let v19 : BitVec 32 := Scalar.andi arg13 c3_i32
  let v171 : BitVec 32 := Scalar.muli c16_i32_63 v19
  let v172 : BitVec 32 := Scalar.addi v170 v171
  let v173 : BitVec 32 := v172
  let v177 : Index := Scalar.indexCast v173
  let c384 : Index := 384#32
  ![v177.toNat, 0, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x1x4x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x128x2880 : Shape := ⟨3, ![2, 128, 2880]⟩
abbrev S22118400 : Shape := ⟨1, ![22118400]⟩
abbrev S10800 : Shape := ⟨1, ![10800]⟩
abbrev S10800x2048 : Shape := ⟨2, ![10800, 2048]⟩
abbrev S10800x1 : Shape := ⟨2, ![10800, 1]⟩
abbrev S2880x7680 : Shape := ⟨2, ![2880, 7680]⟩
abbrev S2x128x7680 : Shape := ⟨3, ![2, 128, 7680]⟩
abbrev S256x7680 : Shape := ⟨2, ![256, 7680]⟩

abbrev nBuf : Space → Nat
  | .hbm => 19
  | .vmem => 0
  | .smem => 0
  | _ => 0

abbrev bufTy : (tb : Table) → Fin (tcTables nBuf tb) → BufTy
  | .hbm, ⟨0, _⟩ => ⟨S2x128x2880, .bf16⟩
  | .hbm, ⟨1, _⟩ => ⟨S22118400, .i8⟩
  | .hbm, ⟨2, _⟩ => ⟨S10800, .f32⟩
  | .hbm, ⟨3, _⟩ => ⟨S10800, .f32⟩
  | .hbm, ⟨4, _⟩ => ⟨S22118400, .i32⟩
  | .hbm, ⟨5, _⟩ => ⟨S22118400, .bf16⟩
  | .hbm, ⟨6, _⟩ => ⟨S10800x2048, .bf16⟩
  | .hbm, ⟨7, _⟩ => ⟨S10800, .bf16⟩
  | .hbm, ⟨8, _⟩ => ⟨S10800x1, .bf16⟩
  | .hbm, ⟨9, _⟩ => ⟨S10800, .bf16⟩
  | .hbm, ⟨10, _⟩ => ⟨S10800x1, .bf16⟩
  | .hbm, ⟨11, _⟩ => ⟨S10800x2048, .bf16⟩
  | .hbm, ⟨12, _⟩ => ⟨S10800x2048, .bf16⟩
  | .hbm, ⟨13, _⟩ => ⟨S10800x2048, .bf16⟩
  | .hbm, ⟨14, _⟩ => ⟨S10800x2048, .bf16⟩
  | .hbm, ⟨15, _⟩ => ⟨S2880x7680, .bf16⟩
  | .hbm, ⟨16, _⟩ => ⟨S2x128x7680, .f32⟩
  | .hbm, ⟨17, _⟩ => ⟨S2x128x7680, .bf16⟩
  | .hbm, ⟨18, _⟩ => ⟨S256x7680, .bf16⟩
  | _, _ => ⟨S2x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Claims.lean ====
/- Hand-written. The side claims: the idealization's rewrites, and the frames of the three programs. -/
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Lib.Bf16PairInverse

@[expose] public section

namespace Cert.Hand

open Idealize.ShloMosaic Idealize.SL.Sem
open Cert.KernelIdeal IdealRules.bf16_pair

/-- Every rewrite that turns the kernel into its idealization is one of the word-pair rules, at the shapes met: the four
    word buffers re-typed as pairs, and the packing, unpacking and re-reading of the words kept in them. -/
theorem preserves : Cert.preserves_Kernel_KernelIdeal :=
  ⟨bufferStatement S128x2x2944 S128x1x2944, bufferStatement S256x2x128 S256x1x128, bufferStatement S5520x2x128 S5520x1x128,
   bufferStatement S1472x2x512 S1472x1x512, statement S256x128 S128x128, statement S128x2x128 S128x1x128, packStatement S128x128,
   statement S8x2x128 S8x1x128, statement S16x128 S8x128, packStatement S8x128, statement S16x2x128 S16x1x128,
   statement S32x128 S16x128, statement S128x2x2944 S128x1x2944, statement S256x2944 S128x2944, statement S1472x2x512 S1472x1x512,
   statement S2944x512 S1472x512⟩

end Cert.Hand
-- ==== Proof.IdealOffsets.lean ====
/- Hand-written. Where the kernel's loops read and write, as plain numbers of the trip and the grid point. -/
module

public import proofs.«01_k».proof.Proof.Gen.KernelIdeal.Skeleton

@[expose] public section

noncomputable section

namespace Cert.KernelIdeal.Hand

open Cert.KernelIdeal Cert.KernelIdeal.Gen
open Idealize.ShloMosaic

/-- The row of the scale-offset words at which trip `t`'s load number `r` starts (its eight rows are 15 apart). -/
theorem off6_eq : ∀ t : Fin k0_t3_loop.trips, ∀ r : Fin 4,
    k0_off6 t (BitVec.ofNat 32 (8 * r.val))
      = ![(15 * (32 * (t.val / 15) + 8 * r.val) + t.val % 15) % 128, 0, 0] := by decide +kernel

/-- The row of the code words at which trip `t`'s load number `r` starts (its eight rows are 4 apart); the loads that would
    run past the last row start 32 or 64 rows earlier. -/
theorem off8_eq : ∀ t : Fin k0_t4_loop.trips, ∀ r : Fin 4,
    k0_off8 t (BitVec.ofNat 32 (32 * r.val))
      = ![if 128 * (t.val / 4) + 32 * r.val + t.val % 4 + 28 < 2880
          then 128 * (t.val / 4) + 32 * r.val + t.val % 4 else 128 * (t.val / 4) + t.val % 4, 0] := by decide +kernel

/-- The tile of scales and offsets that trip `t` reads at grid point `i`. -/
theorem off9_eq : ∀ (i : grid0.Coords) (t : Fin k0_t4_loop.trips),
    k0_off9 i t = ![((15 * (t.val % 4) + (i 0).val) / 4 * 23 + t.val / 4) * 16, 0, 0] := by decide +kernel

/-- The word rows that trip `t` writes, first group of 128 columns. -/
theorem off10_eq : ∀ t : Fin k0_t4_loop.trips, k0_off10 t = ![16 * t.val, 0, 0] := by decide +kernel
/-- The word rows that trip `t` writes, second group of 128 columns. -/
theorem off11_eq : ∀ t : Fin k0_t4_loop.trips, k0_off11 t = ![16 * t.val, 0, 128] := by decide +kernel
/-- The word rows that trip `t` writes, third group of 128 columns. -/
theorem off12_eq : ∀ t : Fin k0_t4_loop.trips, k0_off12 t = ![16 * t.val, 0, 256] := by decide +kernel
/-- The word rows that trip `t` writes, fourth group of 128 columns. -/
theorem off13_eq : ∀ t : Fin k0_t4_loop.trips, k0_off13 t = ![16 * t.val, 0, 384] := by decide +kernel

instance closedOff_off10 (t : Fin k0_t4_loop.trips) : ClosedOff (k0_off10 t) := ⟨_, off10_eq t⟩
instance closedOff_off11 (t : Fin k0_t4_loop.trips) : ClosedOff (k0_off11 t) := ⟨_, off11_eq t⟩
instance closedOff_off12 (t : Fin k0_t4_loop.trips) : ClosedOff (k0_off12 t) := ⟨_, off12_eq t⟩
instance closedOff_off13 (t : Fin k0_t4_loop.trips) : ClosedOff (k0_off13 t) := ⟨_, off13_eq t⟩

end Cert.KernelIdeal.Hand
-- ==== Proof.IdealPays.lean ====
/- Hand-written. What the kernel's named vector values hold, entry by entry, over the idealized numbers. -/
module

public import proofs.«01_k».proof.Proof.Gen.KernelIdeal.Skeleton
public import Idealize.ShloMosaic.Lib.Pointwise
public import Idealize.ShloMosaic.Lib.KernelVsHost
public import Idealize.ShloMosaic.Lib.BitcastFour

@[expose] public section

set_option maxRecDepth 16384

noncomputable section

namespace Cert.KernelIdeal.Hand

open Cert.KernelIdeal Cert.KernelIdeal.Gen
open Idealize.ShloMosaic

/-- The gather along the lanes at an entry: the entry of the same row at the lane the index word names. -/
theorem gather_apply {α : Type} {m n : ℕ} (hn : 0 < n) (x : Shape.Idx ⟨2, ![m, n]⟩ → α) (idx : Shape.Idx ⟨2, ![m, n]⟩ → BitVec 32)
    (a : Fin m) (b : Fin n) :
    dynamicGather (s := ⟨2, ![m, n]⟩) 1 x idx (ix2 a b) = x (ix2 a ⟨(idx (ix2 a b)).toNat % n, Nat.mod_lt _ hn⟩) := by
  unfold dynamicGather
  congr 1
  funext c
  match c with
  | ⟨0, _⟩ => rfl
  | ⟨1, _⟩ => rfl

/-- The lane of a 128-column chunk of `x` that the permutation puts at lane `l`. -/
def permLane (l : ℕ) : ℕ := 4 * (8 * (l % 4) + l % 32 / 4) + l / 32

theorem pay29_apply (a : Fin 256) (b : Fin 128) : (k0_pay29 (ix2 a b)) = BitVec.ofNat 32 (permLane b.val) := by
  unfold k0_pay29
  pointwise
  revert b
  unfold permLane
  decide +kernel

theorem permLane_lt : ∀ b : Fin 128, permLane b.val < 128 := by unfold permLane; decide +kernel

theorem lane_word : ∀ b : Fin 128, (Scalar.select (IntOp.cmpi CmpIPredicate.slt (BitVec.ofNat 32 (permLane b.val)) 0#32)
      (IntOp.addi (BitVec.ofNat 32 (permLane b.val)) 128#32) (BitVec.ofNat 32 (permLane b.val))).toNat % 128 = permLane b.val := by
  unfold permLane; decide +kernel

theorem pay30_apply (x : S256x128.Idx → EReal) (a : Fin 128) (p : Fin 2) (b : Fin 128) :
    k0_pay30 (F := Ideal) x (ix3 a p b) = x (ix2 ⟨2 * a.val + p.val, by omega⟩ ⟨permLane b.val, permLane_lt b⟩) := by
  unfold k0_pay30
  pointwise
  simp only [pay29_apply, lane_word]
  split
  · congr 2; apply Fin.ext; show 2 * a.val = 2 * a.val + p.val; omega
  · congr 2; apply Fin.ext; show 2 * a.val + 1 = 2 * a.val + p.val; omega

theorem pay31_apply (x : S256x64.Idx → EReal) (a : Fin 128) (p : Fin 2) (b : Fin 128) :
    k0_pay31 (F := Ideal) x (ix3 a p b)
      = if h : permLane b.val < 64 then x (ix2 ⟨2 * a.val + p.val, by omega⟩ ⟨permLane b.val, h⟩) else 0 := by
  unfold k0_pay31
  pointwise
  simp only [pay29_apply, lane_word]
  split
  · congr 2; funext h; congr 2; apply Fin.ext; show 2 * a.val = 2 * a.val + p.val; omega
  · congr 2; funext h; congr 2; apply Fin.ext; show 2 * a.val + 1 = 2 * a.val + p.val; omega

theorem pay39_apply (u v : S1x128x128.Idx → EReal) (a : Fin 128) (p : Fin 2) (b : Fin 128) :
    k0_pay39 (F := Ideal) u v (ix3 a p b) = if p.val % 2 = 0 then u (ix3 0 b a) else v (ix3 0 b a) := by
  unfold k0_pay39 k0_pay37 k0_pay38
  pointwise

theorem pay1_apply (u v : S1x128x128.Idx → EReal) (a : Fin 128) (p : Fin 2) (b : Fin 128) :
    k0_pay1 (F := Ideal) (k0_pay37 u) (k0_pay38 v) 127#32 (ix3 a p b)
      = if p.val % 2 = 0 then u (ix3 0 ⟨(b.val + 1) % 128, by omega⟩ a) else v (ix3 0 ⟨(b.val + 1) % 128, by omega⟩ a) := by
  unfold k0_pay1 k0_pay37 k0_pay38
  pointwise
  have e : (b.val + 128 - 127) % 128 = (b.val + 1) % 128 := by omega
  simp only [e]

/-- The word number, in the flat list of blocks, at which the eight blocks of trip `t`'s group `j` start. -/
def flat0 (t j : ℕ) : ℕ := 15 * (32 * (t / 15) + 8 * j) + t % 15

/-- The lane of the scale-offset words that trip `t` reads for its group `j`. -/
def lane3 (t : Fin k0_t3_loop.trips) (j : Fin 4) : Fin 128 := ⟨flat0 t.val j.val / 128 % 128, Nat.mod_lt _ (by decide)⟩

/-- The index word of the gather along the lanes in the table loop. -/
def word3 (t : Fin k0_t3_loop.trips) (c : BitVec 32) : BitVec 32 :=
  Scalar.shrsi (Scalar.addi (Scalar.muli 15#32 (Scalar.addi (Scalar.muli 32#32 (Scalar.divsi (Scf.iv 0#32 1#32 t) 15#32)) c))
    (Scalar.remsi (Scf.iv 0#32 1#32 t) 15#32)) 7#32

theorem word3_lane : ∀ t : Fin k0_t3_loop.trips, ∀ j : Fin 4,
    (Scalar.select (IntOp.cmpi CmpIPredicate.slt (word3 t (BitVec.ofNat 32 (8 * j.val))) 0#32)
      (IntOp.addi (word3 t (BitVec.ofNat 32 (8 * j.val))) 128#32) (word3 t (BitVec.ofNat 32 (8 * j.val)))).toNat % 128
      = (lane3 t j).val := by decide +kernel

theorem pay8_apply (t : Fin k0_t3_loop.trips) (v : S8x2x128.Idx → EReal) (q : Fin 8) (l : Fin 128) :
    k0_pay8 (F := Ideal) 0#32 1#32 t v (ix2 q l) = v (ix3 q 0 (lane3 t 0)) := by
  have h := word3_lane t 0
  unfold word3 at h
  unfold k0_pay8 k0_pay7
  pointwise
  exact congrArg v (congrArg (ix3 q 0) (Fin.ext h))

theorem pay9_apply (t : Fin k0_t3_loop.trips) (v : S8x2x128.Idx → EReal) (q : Fin 8) (l : Fin 128) :
    k0_pay9 (F := Ideal) 0#32 1#32 t v (ix2 q l) = v (ix3 q 1 (lane3 t 0)) := by
  have h := word3_lane t 0
  unfold word3 at h
  unfold k0_pay9 k0_pay7
  pointwise
  exact congrArg v (congrArg (ix3 q 1) (Fin.ext h))

abbrev v82 (t : Fin k0_t3_loop.trips) : BitVec 32 := Scalar.divsi (Scf.iv 0#32 1#32 t) 15#32
abbrev v83 (t : Fin k0_t3_loop.trips) : BitVec 32 := Scalar.remsi (Scf.iv 0#32 1#32 t) 15#32
abbrev v119 (t : Fin k0_t3_loop.trips) : BitVec 32 :=
  Scalar.addi (Scalar.muli 15#32 (Scalar.addi (Scalar.muli 32#32 (v82 t)) 8#32)) (v83 t)

theorem pay11_apply (t : Fin k0_t3_loop.trips) (v : S8x2x128.Idx → EReal) (q : Fin 8) (l : Fin 128) :
    k0_pay11 (F := Ideal) (v119 t) 7#32 v (ix2 q l) = v (ix3 q 0 (lane3 t 1)) := by
  have h := word3_lane t 1
  unfold word3 at h
  unfold k0_pay11 k0_pay10
  pointwise
  exact congrArg v (congrArg (ix3 q 0) (Fin.ext h))

theorem pay12_apply (t : Fin k0_t3_loop.trips) (v : S8x2x128.Idx → EReal) (q : Fin 8) (l : Fin 128) :
    k0_pay12 (F := Ideal) (v119 t) 7#32 v (ix2 q l) = v (ix3 q 1 (lane3 t 1)) := by
  have h := word3_lane t 1
  unfold word3 at h
  unfold k0_pay12 k0_pay10
  pointwise
  exact congrArg v (congrArg (ix3 q 1) (Fin.ext h))

theorem pay17_apply (t : Fin k0_t3_loop.trips) (v : S8x2x128.Idx → EReal) (q : Fin 8) (l : Fin 128) :
    k0_pay17 (F := Ideal) (k0_pay13 (v82 t) (v83 t)) (k0_pay14 v) k0_pay16 (ix2 q l) = v (ix3 q 0 (lane3 t 2)) := by
  have h := word3_lane t 2
  unfold word3 at h
  unfold k0_pay17 k0_pay13 k0_pay14 k0_pay16
  pointwise
  exact congrArg v (congrArg (ix3 q 0) (Fin.ext h))

theorem pay18_apply (t : Fin k0_t3_loop.trips) (v : S8x2x128.Idx → EReal) (q : Fin 8) (l : Fin 128) :
    k0_pay18 (F := Ideal) (k0_pay13 (v82 t) (v83 t)) (k0_pay15 v) (ix2 q l) = v (ix3 q 1 (lane3 t 2)) := by
  have h := word3_lane t 2
  unfold word3 at h
  unfold k0_pay18 k0_pay13 k0_pay15
  pointwise
  exact congrArg v (congrArg (ix3 q 1) (Fin.ext h))

theorem pay23_apply (t : Fin k0_t3_loop.trips) (v : S8x2x128.Idx → EReal) (q : Fin 8) (l : Fin 128) :
    k0_pay23 (F := Ideal) (k0_pay21 (v82 t) (v83 t) v) (ix2 q l) = v (ix3 q 0 (lane3 t 3)) := by
  have h := word3_lane t 3
  unfold word3 at h
  unfold k0_pay23 k0_pay21 k0_pay19
  pointwise
  exact congrArg v (congrArg (ix3 q 0) (Fin.ext h))

theorem pay24_apply (t : Fin k0_t3_loop.trips) (v : S8x2x128.Idx → EReal) (q : Fin 8) (l : Fin 128) :
    k0_pay24 (F := Ideal) (k0_pay20 v) (k0_pay22 (v82 t) (v83 t)) (ix2 q l) = v (ix3 q 1 (lane3 t 3)) := by
  have h := word3_lane t 3
  unfold word3 at h
  unfold k0_pay24 k0_pay20 k0_pay22 k0_pay19
  pointwise
  exact congrArg v (congrArg (ix3 q 1) (Fin.ext h))

theorem pay25_apply (u v : S8x128.Idx → EReal) (q : Fin 8) (p : Fin 2) (l : Fin 128) :
    k0_pay25 (F := Ideal) u v (ix3 q p l) = if p.val % 2 = 0 then u (ix2 q l) else v (ix2 q l) := by
  unfold k0_pay25; pointwise
theorem pay26_apply (u v : S8x128.Idx → EReal) (q : Fin 8) (p : Fin 2) (l : Fin 128) :
    k0_pay26 (F := Ideal) u v (ix3 q p l) = if p.val % 2 = 0 then u (ix2 q l) else v (ix2 q l) := by
  unfold k0_pay26; pointwise
theorem pay2_apply (u v : S8x128.Idx → EReal) (q : Fin 8) (p : Fin 2) (l : Fin 128) :
    k0_pay2 (F := Ideal) u v (ix3 q p l) = if p.val % 2 = 0 then u (ix2 q l) else v (ix2 q l) := by
  unfold k0_pay2; pointwise
theorem pay3_apply (u v : S8x128.Idx → EReal) (q : Fin 8) (p : Fin 2) (l : Fin 128) :
    k0_pay3 (F := Ideal) u v (ix3 q p l) = if p.val % 2 = 0 then u (ix2 q l) else v (ix2 q l) := by
  unfold k0_pay3; pointwise

/-! ## The code words -/

/-- Thirty-two-bit words read at eight bits: row `p` of a column is byte `p % 4` of word row `p / 4`. -/
theorem bitcast_32_8_ix2 {R r n : Nat} (x : Shape.Idx ⟨2, ![r, n]⟩ → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro i hi
  rw [bitcast_getLsbD x h _ i hi (by decide), BitVec.getLsbD_extractLsb']
  have er : Shape.row ⟨2, ![R, n]⟩ (ix2 p l) = p.val := rfl
  have eq : (Shape.row ⟨2, ![R, n]⟩ (ix2 p l) * 8 + i) % 32 = 8 * (p.val % 4) + i := by rw [er]; omega
  rw [eq]
  simp only [hi, decide_true, Bool.true_and]
  congr 2
  funext c
  match c with
  | ⟨0, _⟩ =>
    refine Fin.ext ((h.srcIdx_row _ _ _ ⟨0, Nat.zero_lt_two⟩ rfl).trans ?_)
    rw [er]; show (p.val * 8 + i) / 32 = a.val; omega
  | ⟨1, _⟩ => exact Fin.ext (h.srcIdx_other _ _ _ ⟨1, Nat.one_lt_two⟩ (by show ¬ 1 + 2 = 2; omega))

/-- Bytes read as thirty-two-bit words, bit by bit. -/
theorem bitcast_8_32_bit {R r n : Nat} (x : Shape.Idx ⟨2, ![R, n]⟩ → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  rw [bitcast_8_32_getLsbD x h _ q hq]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Byte `c` of the code word at a row and lane is the code of that row's group `c` at that lane. -/
theorem pay4_byte (w : S2880x1x4x128.Idx → BitVec 8) (k : Fin 2880) (l : Fin 128) (c : Fin 4) :
    (k0_pay4 (F := Ideal) w (ix2 k l)).extractLsb' (8 * c.val) 8 = w (ix4 k 0 c l) := by
  unfold k0_pay4
  pointwise
  apply BitVec.eq_of_getLsbD_eq
  intro i hi
  rw [BitVec.getLsbD_extractLsb']
  rw [bitcast_8_32_bit _ _ k l (8 * c.val + i) (by omega) ⟨4 * k.val + c.val, by omega⟩ (by show 4 * k.val + c.val = _; omega)]
  have e : (8 * c.val + i) % 8 = i := by omega
  rw [e]
  pointwise
  simp only [hi, decide_true, Bool.true_and]

/-- The thirty-two rows of a tile laid out as sixteen words of two. -/
def repack (v : FVec Ideal S32x128 .bf16) : Vec Ideal S16x2x128 .bf16 :=
  interleaveRows S16x2x128 (shapeCast S16x1x128 (rowsOfParity 0 S16x128 v bitcasts_S32x128_w16_S16x128_w32) shapeCasts_S16x128_S16x1x128)
    (shapeCast S16x1x128 (rowsOfParity 1 S16x128 v bitcasts_S32x128_w16_S16x128_w32) shapeCasts_S16x128_S16x1x128)
    bitcasts_S16x2x128_w16_S16x1x128_w32

theorem repack_apply (v : S32x128.Idx → EReal) (ρ : Fin 16) (p : Fin 2) (l : Fin 128) :
    repack v (ix3 ρ p l) = v (ix2 ⟨2 * ρ.val + p.val, by omega⟩ l) := by
  unfold repack
  pointwise
  split
  · congr 2; apply Fin.ext; show 2 * ρ.val = 2 * ρ.val + p.val; omega
  · congr 2; apply Fin.ext; show 2 * ρ.val + 1 = 2 * ρ.val + p.val; omega

/-- A tile of weights: the codes in the bytes of `W`, times the scales, plus the offsets. -/
def dequant (W : IVec S8x128 32) (s o : FVec Ideal S32x128 .bf16) : FVec Ideal S32x128 .bf16 :=
  addf (mulf (uitofp .bf16 (bitcast S32x128 8 W bitcasts_S8x128_w32_S32x128_w8)) s) o

theorem dequant_apply (W : S8x128.Idx → BitVec 32) (s o : S32x128.Idx → EReal) (P : Fin 32) (l : Fin 128) :
    dequant W s o (ix2 P l)
      = FloatOps.uitofp (F := Ideal) .bf16 ((W (ix2 ⟨P.val / 4, by omega⟩ l)).extractLsb' (8 * (P.val % 4)) 8) * s (ix2 P l) + o (ix2 P l) := by
  unfold dequant
  pointwise
  rw [bitcast_32_8_ix2 _ _ _ _ ⟨P.val / 4, by omega⟩ rfl]

/-- The two words, even bytes kept, one on the other. -/
def evens (a b : IVec S8x128 32) : IVec S8x128 32 :=
  ori (andi a (broadcast S8x128 16711935#32)) (shli (andi b (broadcast S8x128 16711935#32)) (broadcast S8x128 8#32))

/-- The two words, odd bytes kept, one on the other. -/
def odds (a b : IVec S8x128 32) : IVec S8x128 32 :=
  ori (andi (shrui a (broadcast S8x128 8#32)) (broadcast S8x128 16711935#32))
    (shli (andi (shrui b (broadcast S8x128 8#32)) (broadcast S8x128 16711935#32)) (broadcast S8x128 8#32))

theorem pay46_eq (a b : IVec S8x128 32) (s o : FVec Ideal S32x128 .bf16) :
    k0_pay46 (F := Ideal) a b s o = repack (dequant (evens a b) s o) := rfl
theorem pay49_eq (a b : IVec S8x128 32) (s o : FVec Ideal S32x128 .bf16) :
    k0_pay49 (F := Ideal) (k0_pay47 a b s o) (k0_pay48 a b s o) = repack (dequant (odds a b) s o) := rfl
theorem pay50_eq (a b : IVec S8x128 32) (s o : FVec Ideal S32x128 .bf16) :
    k0_pay50 (F := Ideal) a b s o = repack (dequant (evens a b) s o) := rfl
theorem pay5_eq (a b : IVec S8x128 32) (s o : FVec Ideal S32x128 .bf16) :
    k0_pay5 (F := Ideal) s o (k0_pay51 a) (k0_pay52 b) = repack (dequant (odds a b) s o) := rfl

/-- Four words by number. -/
def pick (w0 w1 w2 w3 : BitVec 32) (B : ℕ) : BitVec 32 := if B = 0 then w0 else if B = 1 then w1 else if B = 2 then w2 else w3

theorem toNat_8 : ((8#32 : BitVec 32).toNat < 32) = True := by decide
theorem toNat_16 : ((16#32 : BitVec 32).toNat < 32) = True := by decide

/-- Code byte 0 of the four words, stacked. -/
theorem evens_low (w0 w1 w2 w3 : S8x128.Idx → BitVec 32) (x : Fin 8) (l : Fin 128) (B : ℕ) (hB : B < 4) :
    (evens (k0_pay40 (F := Ideal) w0 w2) (k0_pay42 (F := Ideal) w1 w3) (ix2 x l)).extractLsb' (8 * B) 8
      = (pick (w0 (ix2 x l)) (w1 (ix2 x l)) (w2 (ix2 x l)) (w3 (ix2 x l)) B).extractLsb' (8 * 0) 8 := by
  unfold evens k0_pay40 k0_pay42
  pointwise
  generalize w0 (ix2 x l) = a0, w1 (ix2 x l) = a1, w2 (ix2 x l) = a2, w3 (ix2 x l) = a3
  simp only [IntOp.ori, IntOp.andi, IntOp.shli, IntOp.shrui, toNat_8, toNat_16, if_true]
  apply BitVec.eq_of_getLsbD_eq
  intro i hi
  interval_cases B <;> interval_cases i <;> simp [pick]

/-- Code byte 1 of the four words, stacked. -/
theorem odds_low (w0 w1 w2 w3 : S8x128.Idx → BitVec 32) (x : Fin 8) (l : Fin 128) (B : ℕ) (hB : B < 4) :
    (odds (k0_pay40 (F := Ideal) w0 w2) (k0_pay42 (F := Ideal) w1 w3) (ix2 x l)).extractLsb' (8 * B) 8
      = (pick (w0 (ix2 x l)) (w1 (ix2 x l)) (w2 (ix2 x l)) (w3 (ix2 x l)) B).extractLsb' (8 * 1) 8 := by
  unfold odds k0_pay40 k0_pay42
  pointwise
  generalize w0 (ix2 x l) = a0, w1 (ix2 x l) = a1, w2 (ix2 x l) = a2, w3 (ix2 x l) = a3
  simp only [IntOp.ori, IntOp.andi, IntOp.shli, IntOp.shrui, toNat_8, toNat_16, if_true]
  apply BitVec.eq_of_getLsbD_eq
  intro i hi
  interval_cases B <;> interval_cases i <;> simp [pick]

/-- Code byte 2 of the four words, stacked. -/
theorem evens_high (w0 w1 w2 w3 : S8x128.Idx → BitVec 32) (x : Fin 8) (l : Fin 128) (B : ℕ) (hB : B < 4) :
    (evens (k0_pay41 (F := Ideal) w0 w2) (k0_pay43 (F := Ideal) w1 w3) (ix2 x l)).extractLsb' (8 * B) 8
      = (pick (w0 (ix2 x l)) (w1 (ix2 x l)) (w2 (ix2 x l)) (w3 (ix2 x l)) B).extractLsb' (8 * 2) 8 := by
  unfold evens k0_pay41 k0_pay43
  pointwise
  generalize w0 (ix2 x l) = a0, w1 (ix2 x l) = a1, w2 (ix2 x l) = a2, w3 (ix2 x l) = a3
  simp only [IntOp.ori, IntOp.andi, IntOp.shli, IntOp.shrui, toNat_8, toNat_16, if_true]
  apply BitVec.eq_of_getLsbD_eq
  intro i hi
  interval_cases B <;> interval_cases i <;> simp [pick]

/-- Code byte 3 of the four words, stacked. -/
theorem odds_high (w0 w1 w2 w3 : S8x128.Idx → BitVec 32) (x : Fin 8) (l : Fin 128) (B : ℕ) (hB : B < 4) :
    (odds (k0_pay41 (F := Ideal) w0 w2) (k0_pay43 (F := Ideal) w1 w3) (ix2 x l)).extractLsb' (8 * B) 8
      = (pick (w0 (ix2 x l)) (w1 (ix2 x l)) (w2 (ix2 x l)) (w3 (ix2 x l)) B).extractLsb' (8 * 3) 8 := by
  unfold odds k0_pay41 k0_pay43
  pointwise
  generalize w0 (ix2 x l) = a0, w1 (ix2 x l) = a1, w2 (ix2 x l) = a2, w3 (ix2 x l) = a3
  simp only [IntOp.ori, IntOp.andi, IntOp.shli, IntOp.shrui, toNat_8, toNat_16, if_true]
  apply BitVec.eq_of_getLsbD_eq
  intro i hi
  interval_cases B <;> interval_cases i <;> simp [pick]

theorem pay44_apply (v : S16x2x128.Idx → EReal) (ρ : Fin 32) (l : Fin 128) :
    k0_pay44 (F := Ideal) v (ix2 ρ l) = v (ix3 ⟨ρ.val / 2, by omega⟩ ⟨ρ.val % 2, by omega⟩ l) := by
  unfold k0_pay44
  pointwise
  split
  · congr 2; apply Fin.ext; show 0 = ρ.val % 2; omega
  · congr 2; apply Fin.ext; show 1 = ρ.val % 2; omega

theorem pay45_apply (v : S16x2x128.Idx → EReal) (ρ : Fin 32) (l : Fin 128) :
    k0_pay45 (F := Ideal) v (ix2 ρ l) = v (ix3 ⟨ρ.val / 2, by omega⟩ ⟨ρ.val % 2, by omega⟩ l) := by
  unfold k0_pay45
  pointwise
  split
  · congr 2; apply Fin.ext; show 0 = ρ.val % 2; omega
  · congr 2; apply Fin.ext; show 1 = ρ.val % 2; omega

theorem pay6_apply (x : S128x2x2944.Idx → EReal) (w : S1472x2x512.Idx → EReal) (r : Fin 256) (n : Fin 512) :
    k0_pay6 (F := Ideal) x w (ix2 r n)
      = ∑ P : Fin 2944, x (ix3 ⟨r.val / 2, by omega⟩ ⟨r.val % 2, by omega⟩ P) * w (ix3 ⟨P.val / 2, by omega⟩ ⟨P.val % 2, by omega⟩ n) := by
  unfold k0_pay6
  pointwise
  refine Finset.sum_congr rfl fun P _ => ?_
  congr 1
  · split
    · congr 2; apply Fin.ext; show 0 = r.val % 2; omega
    · congr 2; apply Fin.ext; show 1 = r.val % 2; omega
  · split
    · congr 2; apply Fin.ext; show 0 = P.val % 2; omega
    · congr 2; apply Fin.ext; show 1 = P.val % 2; omega

end Cert.KernelIdeal.Hand
-- ==== Proof.IdealLoops.lean ====
/- Hand-written. What the buffers hold while the kernel runs, over the idealized numbers: the counted loops, one trip
   each. -/
module

public import proofs.«01_k».proof.Proof.IdealOffsets
public import proofs.«01_k».proof.Proof.IdealPays
public import proofs.«01_k».proof.Proof.Gen.KernelIdeal.Frame
public import Idealize.ShloMosaic.Lib.Pipeline.Frame
public import Idealize.ShloMosaic.Lib.Tactic
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole memref's buffer held at contents whose reading satisfies `P`. -/
abbrev at_ (c : Dev nD) {sp : Space} {S : Shape} {e : EltTy} (M : Memref sig .tc sp S e)
    (P : (S.Idx → Elt Ideal e) → Prop) : sProp 𝕄 :=
  iprop(∃ f : BufTy.Contents (Elt Ideal) M.view.ty, (M.view.loc (c : Thread nD τ) ↦[M.view.set]{fullShare} f)
    ∗ ⌜P (M.view.read (Elt Ideal) f)⌝)

/-- A vector at a number, zero past its end. -/
def at1 {n : ℕ} (x : Shape.Idx ⟨1, ![n]⟩ → EReal) (k : ℕ) : EReal := if h : k < n then x (ix1 ⟨k, h⟩) else 0

/-- A matrix at a row and a number, zero past the end of the row. -/
def at2 {m n : ℕ} (x : Shape.Idx ⟨2, ![m, n]⟩ → EReal) (r : Fin m) (k : ℕ) : EReal :=
  if h : k < n then x (ix2 r ⟨k, h⟩) else 0

/-- A buffer written on by pieces that agree with `G` holds `G` wherever it did before or a piece lies. -/
theorem read_upTo {sp : Space} {S : Shape} {e : EltTy} (v : View sig .tc sp S e) (f : v.ty.Contents (Elt Ideal)) (G : S.Idx → Elt Ideal e)
    (L : List (View.Piece (Elt Ideal) S e)) (hG : ∀ p ∈ L, ∀ x : p.1.shape.Idx, p.2 x = G (p.1.emb x)) (D D' : S.Idx → Prop)
    (hstep : ∀ y, D' y → D y ∨ ∃ p ∈ L, y ∈ p.1.set) (hold : ∀ y, D y → v.read (Elt Ideal) f y = G y) :
    ∀ y, D' y → v.read (Elt Ideal) (v.writes (Elt Ideal) f L) y = G y := by
  intro y hy
  by_cases hc : ∃ p ∈ L, y ∈ p.1.set
  · exact View.read_writes_apply_of_pieces v f G L hG y hc
  · rw [View.read_writes_apply_of_forall_not_mem v f y L (fun p hp hm => hc ⟨p, hp, hm⟩)]
    exact hold y ((hstep y hy).resolve_right hc)

/-- The scale-offset words: row `l`, half `p`, lane `r` is the scale (or offset) number `128 r + l`. -/
def ExtOK (X3 X4 : S10800.Idx → EReal) (f : S256x2x128.Idx → EReal) : Prop :=
  ∀ (l : Fin 256) (p : Fin 2) (r : Fin 128), r.val < 127 → f (ix3 l p r) = at1 (if p.val % 2 = 0 then X3 else X4) (128 * r.val + l.val)

/-- A tile table: word row `R`, half `p`, any lane, is one of the scales (or offsets). -/
def Table (X : S10800.Idx → EReal) (y : S5520x2x128.Idx) : EReal :=
  at1 X (15 * (32 * ((y 0).val / 16 % 23) + 8 * (2 * ((y 0).val % 2) + (y 1).val) + (y 0).val % 16 / 2) + (y 0).val / 16 / 23)

/-- Whether the table loop has written a word row before trip `k`. -/
def Done3 (k : ℕ) (y : S5520x2x128.Idx) : Prop := 15 * ((y 0).val / 16 % 23) + (y 0).val / 16 / 23 < k

/-- The table is right on every word row written before trip `k`. -/
def TableUpTo (X : S10800.Idx → EReal) (k : ℕ) (f : S5520x2x128.Idx → EReal) : Prop := ∀ y, Done3 k y → f y = Table X y

/-- What the table loop keeps: before trip `k` the tables are right on every word row written. -/
abbrev Inv3 (c : Dev nD) (arg8 : Memref sig .tc .vmem S256x2x128 .bf16) (arg9 arg10 : Memref sig .tc .vmem S5520x2x128 .bf16)
    (X3 X4 : S10800.Idx → EReal) (k : ℕ) : sProp 𝕄 :=
  iprop(at_ c arg8 (ExtOK X3 X4) ∗ at_ c arg9 (TableUpTo X3 k)
    ∗ at_ c arg10 (TableUpTo X4 k))

/-- A load's entry is the buffer's at the place the rectangle puts it. -/
theorem readAt_at {sp : Space} {S : Shape} {e : EltTy} (v : View sig .tc sp S e) (R : LoadRect S) (f : v.ty.Contents (Elt Ideal))
    (x : R.shape.Idx) (y : S.Idx) (h : ∀ a, (y a).val = R.off a + R.stride a * (x a).val) :
    View.readAt (Elt Ideal) v R f x = v.read (Elt Ideal) f y := by
  have e : R.idx x = y := funext fun a => Fin.ext (h a).symm
  rw [← e]
  rfl

/-- What the strided load of eight scale-offset words reads at lane `lane3`: the scales (or offsets) at `flat0`, 15 apart. -/
theorem load6 {X3 X4 : S10800.Idx → EReal} (v : View sig .tc .vmem S256x2x128 .bf16) (f : v.ty.Contents (Elt Ideal))
    (h8 : ExtOK X3 X4 (v.read (Elt Ideal) f)) (t : Fin k0_t3_loop.trips) (j : Fin 4) (off : Fin 3 → ℕ)
    (hoff : off = k0_off6 t (BitVec.ofNat 32 (8 * j.val))) (inb) (q : Fin 8) (p : Fin 2) :
    View.readAt (Elt Ideal) v (⟨off, S8x2x128.size, ![15, 1, 1], inb⟩ : LoadRect S256x2x128) f (ix3 q p (lane3 t j))
      = at1 (if p.val % 2 = 0 then X3 else X4) (flat0 t.val j.val + 15 * q.val) := by
  have ht : t.val < 345 := t.isLt
  have hj := j.isLt
  have hq := q.isLt
  rw [off6_eq] at hoff
  subst hoff
  have hl : (lane3 t j).val = flat0 t.val j.val / 128 := by
    show flat0 t.val j.val / 128 % 128 = _
    unfold flat0; omega
  rw [readAt_at v _ f _ (ix3 ⟨flat0 t.val j.val % 128 + 15 * q.val, by omega⟩ p (lane3 t j))]
  · rw [h8 _ _ _ (by rw [hl]; unfold flat0; omega), hl]
    congr 1
    show 128 * _ + (flat0 t.val j.val % 128 + 15 * q.val) = _
    omega
  · intro a
    match a with
    | ⟨0, _⟩ => rfl
    | ⟨1, _⟩ => show p.val = 0 + 1 * p.val; omega
    | ⟨2, _⟩ => show (lane3 t j).val = 0 + 1 * (lane3 t j).val; omega

/-- The table at a word the trip writes. -/
theorem table_at (X : S10800.Idx → EReal) (t : Fin k0_t3_loop.trips) (h : Fin 2) (q : Fin 8) (p : Fin 2) (y : S5520x2x128.Idx)
    (h0 : (y 0).val = 368 * (t.val % 15) + 16 * (t.val / 15) + h.val + 2 * q.val) (h1 : (y 1).val = p.val) :
    Table X y = at1 X (flat0 t.val (2 * h.val + p.val) + 15 * q.val) := by
  have ht : t.val < 345 := t.isLt
  unfold Table flat0
  rw [h0, h1]
  congr 1
  omega

/-- A strided store of the table loop agrees with the table when its payload does, entry by entry. -/
theorem table_piece (X : S10800.Idx → EReal) (t : Fin k0_t3_loop.trips) (h : Fin 2) (c : BitVec 32) (hc : c = BitVec.ofNat 32 h.val) (inb) (spos)
    (pay : S8x2x128.Idx → EReal) (hpay : ∀ q p l, pay (ix3 q p l) = at1 X (flat0 t.val (2 * h.val + p.val) + 15 * q.val))
    (x : S8x2x128.Idx) :
    pay x = Table X ((⟨⟨k0_off7 t c, S8x2x128.size, ![2, 1, 1], inb⟩, spos⟩ : Rect S5520x2x128).emb x) := by
  have ho : k0_off7 t c = ![368 * (t.val % 15) + 16 * (t.val / 15) + h.val, 0, 0] := by rw [hc]; exact k0_off7_eq t h
  have e : x = ix3 (x 0) (x 1) (x 2) := by funext a; match a with | ⟨0, _⟩ => rfl | ⟨1, _⟩ => rfl | ⟨2, _⟩ => rfl
  rw [table_at X t h (x 0) (x 1) _ ?_ ?_]
  · rw [e]; exact hpay _ _ _
  · show k0_off7 t c 0 + 2 * (x 0).val = _; rw [ho]; rfl
  · show k0_off7 t c 1 + 1 * (x 1).val = _; rw [ho]; show 0 + 1 * (x 1).val = _; omega

/-- The words of one strided store, by their row. -/
theorem mem_off7 (t : Fin k0_t3_loop.trips) (h : Fin 2) (c : BitVec 32) (hc : c = BitVec.ofNat 32 h.val) (inb) (spos) (y : S5520x2x128.Idx)
    (q : ℕ) (hq : q < 8) (hy : (y 0).val = 368 * (t.val % 15) + 16 * (t.val / 15) + h.val + 2 * q) :
    y ∈ (⟨⟨k0_off7 t c, S8x2x128.size, ![2, 1, 1], inb⟩, spos⟩ : Rect S5520x2x128).set := by
  have ho : k0_off7 t c = ![368 * (t.val % 15) + 16 * (t.val / 15) + h.val, 0, 0] := by rw [hc]; exact k0_off7_eq t h
  rw [LoadRect.mem_set]
  intro a
  match a with
  | ⟨0, _⟩ => exact ⟨q, hq, by show (y 0).val = k0_off7 t c 0 + 2 * q; rw [ho, hy]; rfl⟩
  | ⟨1, _⟩ => exact ⟨(y 1).val, (y 1).isLt, by show (y 1).val = k0_off7 t c 1 + 1 * (y 1).val; rw [ho]; show _ = 0 + 1 * (y 1).val; omega⟩
  | ⟨2, _⟩ => exact ⟨(y 2).val, (y 2).isLt, by show (y 2).val = k0_off7 t c 2 + 1 * (y 2).val; rw [ho]; show _ = 0 + 1 * (y 2).val; omega⟩

/-- One trip more: a word row written before trip `k + 1` was written before trip `k` or lies in one of the trip's two stores. -/
theorem done3_succ (t : Fin k0_t3_loop.trips) (y : S5520x2x128.Idx) (hy : Done3 (t.val + 1) y) :
    Done3 t.val y ∨ (∃ q, q < 8 ∧ (y 0).val = 368 * (t.val % 15) + 16 * (t.val / 15) + 1 + 2 * q)
      ∨ ∃ q, q < 8 ∧ (y 0).val = 368 * (t.val % 15) + 16 * (t.val / 15) + 0 + 2 * q := by
  have hb : (y 0).val < 5520 := (y 0).isLt
  unfold Done3 at hy ⊢
  by_cases hd : 15 * ((y 0).val / 16 % 23) + (y 0).val / 16 / 23 < t.val
  · exact .inl hd
  · refine .inr ?_
    have h1 : (y 0).val / 16 / 23 = t.val % 15 := by omega
    have h2 : (y 0).val / 16 % 23 = t.val / 15 := by omega
    have h3 : (y 0).val / 16 = 23 * (t.val % 15) + t.val / 15 := by omega
    rcases Nat.mod_two_eq_zero_or_one (y 0).val with h | h
    · exact .inr ⟨(y 0).val % 16 / 2, by omega, by omega⟩
    · exact .inl ⟨(y 0).val % 16 / 2, by omega, by omega⟩

/-- One trip of the table loop. -/
theorem step3 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (k0_h1 : k0_cond1 i = 1#1) (X3 X4 : S10800.Idx → EReal) (k : Fin k0_t3_loop.trips) :
    Inv3 c arg8 arg9 arg10 X3 X4 k.val
      ⊢ wp frame (wpE (defs₀ (F := Ideal)) Variants.none (c : Thread nD τ) none) Set.univ
          (k0_t3_body (F := Ideal) i arg1 harg1 arg2 harg2 arg3 harg3 arg4 harg4 arg5 harg5 arg6 harg6 arg7 harg7 arg8 harg8 arg9 harg9 arg10 harg10 arg11 harg11 arg12 harg12 k0_h1 k ()) (fun _ => Inv3 c arg8 arg9 arg10 X3 X4 (k.val + 1)) := by
  unfold k0_t3_body
  iintro ⟨⟨%f8, H8, %h8⟩, ⟨%f9, H9, %h9⟩, ⟨%f10, H10, %h10⟩⟩
  sl_exec
  sl_step
  sl_unfold_run_names
  isplitl [H8]
  · iexists _
    isplitl [H8]; · iexact H8
    ipureintro; exact h8
  isplitl [H9]
  · iexists _
    isplitl [H9]; · iexact H9
    ipureintro
    refine read_upTo (e := .bf16) arg9.view f9 (Table X3) _ ?_ (Done3 k.val) _ ?_ h9
    · refine List.forall_mem_cons.mpr ⟨?_, List.forall_mem_cons.mpr ⟨?_, fun _ h => absurd h List.not_mem_nil⟩⟩
      · refine fun x => table_piece X3 k 1 _ rfl _ _ _ (fun q p l => ?_) x
        refine (pay2_apply _ _ q p l).trans ?_
        rcases p with ⟨_ | _ | p, hp⟩
        · exact (pay17_apply k _ q l).trans (load6 _ _ h8 k 2 _ rfl _ q 0)
        · exact (pay23_apply k _ q l).trans (load6 _ _ h8 k 3 _ rfl _ q 0)
        · omega
      · refine fun x => table_piece X3 k 0 _ rfl _ _ _ (fun q p l => ?_) x
        refine (pay25_apply _ _ q p l).trans ?_
        rcases p with ⟨_ | _ | p, hp⟩
        · exact (pay8_apply k _ q l).trans (load6 _ _ h8 k 0 _ rfl _ q 0)
        · exact (pay11_apply k _ q l).trans (load6 _ _ h8 k 1 _ rfl _ q 0)
        · omega
    · intro y hy
      rcases done3_succ k y hy with h | ⟨q, hq, h⟩ | ⟨q, hq, h⟩
      · exact .inl h
      · exact .inr ⟨_, List.mem_cons_self, mem_off7 k 1 _ rfl _ _ y q hq h⟩
      · exact .inr ⟨_, List.mem_cons_of_mem _ List.mem_cons_self, mem_off7 k 0 _ rfl _ _ y q hq h⟩
  · iexists _
    isplitl [H10]; · iexact H10
    ipureintro
    refine read_upTo (e := .bf16) arg10.view f10 (Table X4) _ ?_ (Done3 k.val) _ ?_ h10
    · refine List.forall_mem_cons.mpr ⟨?_, List.forall_mem_cons.mpr ⟨?_, fun _ h => absurd h List.not_mem_nil⟩⟩
      · refine fun x => table_piece X4 k 1 _ rfl _ _ _ (fun q p l => ?_) x
        refine (pay3_apply _ _ q p l).trans ?_
        rcases p with ⟨_ | _ | p, hp⟩
        · exact (pay18_apply k _ q l).trans (load6 _ _ h8 k 2 _ rfl _ q 1)
        · exact (pay24_apply k _ q l).trans (load6 _ _ h8 k 3 _ rfl _ q 1)
        · omega
      · refine fun x => table_piece X4 k 0 _ rfl _ _ _ (fun q p l => ?_) x
        refine (pay26_apply _ _ q p l).trans ?_
        rcases p with ⟨_ | _ | p, hp⟩
        · exact (pay9_apply k _ q l).trans (load6 _ _ h8 k 0 _ rfl _ q 1)
        · exact (pay12_apply k _ q l).trans (load6 _ _ h8 k 1 _ rfl _ q 1)
        · omega
    · intro y hy
      rcases done3_succ k y hy with h | ⟨q, hq, h⟩ | ⟨q, hq, h⟩
      · exact .inl h
      · exact .inr ⟨_, List.mem_cons_self, mem_off7 k 1 _ rfl _ _ y q hq h⟩
      · exact .inr ⟨_, List.mem_cons_of_mem _ List.mem_cons_self, mem_off7 k 0 _ rfl _ _ y q hq h⟩

/-! ## The dequantization loop -/

/-- The row of the weights that the padded row `P` stands for (past the last row for the padding). -/
def kOf (P : ℕ) : ℕ := 128 * (P / 128) + permLane (P % 128)

/-- The row of the codes that the kernel reads for the padded row `P`: `kOf P` except where the load would run past the end. -/
def row4 (P : ℕ) : ℕ :=
  if 128 * (P / 128) + 32 * (P % 4) + P / 32 % 4 + 28 < 2880 then kOf P else 128 * (P / 128) + P / 32 % 4 + 4 * (P % 32 / 4)

/-- The code at a row and a column of a grid point's block. -/
def codeN (X2 : S2880x1x4x128.Idx → BitVec 8) (k col : ℕ) : BitVec 8 :=
  if h : k < 2880 ∧ col < 512 then X2 (ix4 ⟨k, h.1⟩ 0 ⟨col / 128, by omega⟩ ⟨col % 128, by omega⟩) else 0

/-- The weight that the kernel works with at a padded row and a column of grid point `g`'s block. -/
def WVal (X2 : S2880x1x4x128.Idx → BitVec 8) (X3 X4 : S10800.Idx → EReal) (g P col : ℕ) : EReal :=
  FloatOps.uitofp (F := Ideal) .bf16 (codeN X2 (row4 P) col) * at1 X3 ((15 * kOf P + g) / 4) + at1 X4 ((15 * kOf P + g) / 4)

/-- The weight buffer: the padded rows in pairs. -/
def WB (X2 : S2880x1x4x128.Idx → BitVec 8) (X3 X4 : S10800.Idx → EReal) (g : ℕ) (y : S1472x2x512.Idx) : EReal :=
  WVal X2 X3 X4 g (2 * (y 0).val + (y 1).val) (y 2).val

/-- The code words hold the codes, one a byte. -/
def WordsOK (X2 : S2880x1x4x128.Idx → BitVec 8) (f : S2880x128.Idx → BitVec 32) : Prop :=
  ∀ (k : Fin 2880) (l : Fin 128) (c : Fin 4), (f (ix2 k l)).extractLsb' (8 * c.val) 8 = X2 (ix4 k 0 c l)

/-- The weight buffer is right on every word row written before trip `k`. -/
def WBUpTo (X2 : S2880x1x4x128.Idx → BitVec 8) (X3 X4 : S10800.Idx → EReal) (g k : ℕ) (f : S1472x2x512.Idx → EReal) : Prop :=
  ∀ y, (y 0).val / 16 < k → f y = WB X2 X3 X4 g y

/-- The table is right everywhere. -/
def TableOK (X : S10800.Idx → EReal) (f : S5520x2x128.Idx → EReal) : Prop := ∀ y, f y = Table X y

/-- What the dequantization loop keeps: before trip `k` the weights are right on every word row written. -/
abbrev Inv4 (c : Dev nD) (i : grid0.Coords) (arg9 arg10 : Memref sig .tc .vmem S5520x2x128 .bf16) (arg11 : Memref sig .tc .vmem S1472x2x512 .bf16)
    (arg12 : Memref sig .tc .vmem S2880x128 .i32) (X2 : S2880x1x4x128.Idx → BitVec 8) (X3 X4 : S10800.Idx → EReal) (k : ℕ) : sProp 𝕄 :=
  iprop(at_ c arg9 (TableOK X3) ∗ at_ c arg10 (TableOK X4) ∗ at_ c arg11 (WBUpTo X2 X3 X4 (i 0).val k) ∗ at_ c arg12 (WordsOK X2))

/-- The row of the padded order a trip's lane stands for. -/
theorem kOf_tile (t P : ℕ) (hP : P < 32) : kOf (32 * t + P) = 4 * (32 * (t / 4) + 8 * (P % 4) + P / 4) + t % 4 := by
  unfold kOf permLane
  have e1 : (32 * t + P) / 128 = t / 4 := by omega
  have e2 : (32 * t + P) % 128 = 32 * (t % 4) + P := by omega
  rw [e1, e2]
  have e3 : (32 * (t % 4) + P) % 4 = P % 4 := by omega
  have e4 : (32 * (t % 4) + P) % 32 / 4 = P / 4 := by omega
  have e5 : (32 * (t % 4) + P) / 32 = t % 4 := by omega
  rw [e3, e4, e5]
  omega

/-- The strided load of eight code words: the codes of the trip's padded rows `4 x + r`. -/
theorem load8 {X2 : S2880x1x4x128.Idx → BitVec 8} (v : View sig .tc .vmem S2880x128 .i32) (f : v.ty.Contents (Elt Ideal))
    (h12 : WordsOK X2 (v.read (Elt Ideal) f)) (t : Fin k0_t4_loop.trips) (r : Fin 4) (off : Fin 2 → ℕ)
    (hoff : off = k0_off8 t (BitVec.ofNat 32 (32 * r.val))) (inb) (x : Fin 8) (l : Fin 128) (c : Fin 4) :
    (View.readAt (Elt Ideal) v (⟨off, S8x128.size, ![4, 1], inb⟩ : LoadRect S2880x128) f (ix2 x l) : BitVec 32).extractLsb' (8 * c.val) 8
      = codeN X2 (row4 (32 * t.val + (4 * x.val + r.val))) (128 * c.val + l.val) := by
  have ht : t.val < 92 := t.isLt
  have hr := r.isLt
  have hx := x.isLt
  have hl := l.isLt
  have hc := c.isLt
  rw [off8_eq] at hoff
  have e : row4 (32 * t.val + (4 * x.val + r.val))
      = (if 128 * (t.val / 4) + 32 * r.val + t.val % 4 + 28 < 2880
          then 128 * (t.val / 4) + 32 * r.val + t.val % 4 else 128 * (t.val / 4) + t.val % 4) + 4 * x.val := by
    unfold row4
    rw [kOf_tile t.val (4 * x.val + r.val) (by omega)]
    have e2 : (4 * x.val + r.val) % 4 = r.val := by omega
    have e4 : (4 * x.val + r.val) / 4 = x.val := by omega
    have e1 : (32 * t.val + (4 * x.val + r.val)) / 128 = t.val / 4 := by omega
    have e5 : (32 * t.val + (4 * x.val + r.val)) % 4 = r.val := by omega
    have e3 : (32 * t.val + (4 * x.val + r.val)) / 32 % 4 = t.val % 4 := by omega
    have e6 : (32 * t.val + (4 * x.val + r.val)) % 32 / 4 = x.val := by omega
    rw [e2, e4, e1, e5, e3, e6]
    split <;> omega
  have hb : row4 (32 * t.val + (4 * x.val + r.val)) < 2880 := by
    rw [e]; split <;> omega
  subst hoff
  rw [readAt_at v _ f _ (ix2 ⟨row4 (32 * t.val + (4 * x.val + r.val)), hb⟩ l)]
  · rw [h12 _ _ c]
    unfold codeN
    rw [dif_pos ⟨hb, by omega⟩]
    congr 2
    · exact Fin.ext (by show c.val = (128 * c.val + l.val) / 128; omega)
    · exact Fin.ext (by show l.val = (128 * c.val + l.val) % 128; omega)
  · intro a
    match a with
    | ⟨0, _⟩ => exact e
    | ⟨1, _⟩ => show l.val = 0 + 1 * l.val; omega

/-- The entry of the tables a trip of the dequantization loop loads. -/
theorem table_row (t g P : ℕ) (ht : t < 92) (hg : g < 15) (hP : P < 32) :
    15 * (32 * ((((15 * (t % 4) + g) / 4 * 23 + t / 4) * 16 + P / 2) / 16 % 23)
      + 8 * (2 * ((((15 * (t % 4) + g) / 4 * 23 + t / 4) * 16 + P / 2) % 2) + P % 2)
      + (((15 * (t % 4) + g) / 4 * 23 + t / 4) * 16 + P / 2) % 16 / 2)
      + (((15 * (t % 4) + g) / 4 * 23 + t / 4) * 16 + P / 2) / 16 / 23 = (15 * kOf (32 * t + P) + g) / 4 := by
  rw [kOf_tile t P hP]
  generalize hG : (15 * (t % 4) + g) / 4 = G
  have e1 : ((G * 23 + t / 4) * 16 + P / 2) / 16 = G * 23 + t / 4 := by omega
  have e2 : ((G * 23 + t / 4) * 16 + P / 2) % 16 = P / 2 := by omega
  have e3 : ((G * 23 + t / 4) * 16 + P / 2) % 2 = P / 2 % 2 := by omega
  rw [e1, e2, e3]
  have e4 : (G * 23 + t / 4) % 23 = t / 4 := by omega
  have e5 : (G * 23 + t / 4) / 23 = G := by omega
  have e6 : 2 * (P / 2 % 2) + P % 2 = P % 4 := by omega
  have e7 : P / 2 / 2 = P / 4 := by omega
  rw [e4, e5, e6, e7]
  omega

/-- A tile of a table: the scales (or offsets) of the trip's padded rows. -/
theorem load9 {X : S10800.Idx → EReal} (v : View sig .tc .vmem S5520x2x128 .bf16) (f : v.ty.Contents (Elt Ideal))
    (h9 : TableOK X (v.read (Elt Ideal) f)) (i : grid0.Coords) (t : Fin k0_t4_loop.trips) (inb) (P : Fin 32) (l : Fin 128) :
    View.readAt (Elt Ideal) v (Rect.unit (s := S5520x2x128) (k0_off9 i t) S16x2x128.size inb).toLoadRect f
        (ix3 (⟨P.val / 2, by omega⟩ : Fin 16) (⟨P.val % 2, by omega⟩ : Fin 2) l)
      = at1 X ((15 * kOf (32 * t.val + P.val) + (i 0).val) / 4) := by
  have ht : t.val < 92 := t.isLt
  have hg : (i 0).val < 15 := (i 0).isLt
  have hP := P.isLt
  have ho := off9_eq i t
  have hG : (15 * (t.val % 4) + (i 0).val) / 4 < 15 := by omega
  have hr : ((15 * (t.val % 4) + (i 0).val) / 4 * 23 + t.val / 4) * 16 + P.val / 2 < 5520 := by
    generalize (15 * (t.val % 4) + (i 0).val) / 4 = G at hG
    omega
  rw [readAt_at v _ f _ (ix3 ⟨((15 * (t.val % 4) + (i 0).val) / 4 * 23 + t.val / 4) * 16 + P.val / 2, hr⟩ ⟨P.val % 2, by omega⟩ l)]
  · rw [h9]
    unfold Table
    congr 1
    show 15 * (32 * ((((15 * (t.val % 4) + (i 0).val) / 4 * 23 + t.val / 4) * 16 + P.val / 2) / 16 % 23)
      + 8 * (2 * ((((15 * (t.val % 4) + (i 0).val) / 4 * 23 + t.val / 4) * 16 + P.val / 2) % 2) + P.val % 2)
      + (((15 * (t.val % 4) + (i 0).val) / 4 * 23 + t.val / 4) * 16 + P.val / 2) % 16 / 2)
      + (((15 * (t.val % 4) + (i 0).val) / 4 * 23 + t.val / 4) * 16 + P.val / 2) / 16 / 23 = _
    exact table_row t.val (i 0).val P.val ht hg hP
  · intro a
    match a with
    | ⟨0, _⟩ => show _ = k0_off9 i t 0 + 1 * (P.val / 2); rw [ho]; show _ + P.val / 2 = _ + 1 * (P.val / 2); rw [Nat.one_mul]; rfl
    | ⟨1, _⟩ => show _ = k0_off9 i t 1 + 1 * (P.val % 2); rw [ho]; show P.val % 2 = 0 + 1 * (P.val % 2); omega
    | ⟨2, _⟩ => show _ = k0_off9 i t 2 + 1 * l.val; rw [ho]; show l.val = 0 + 1 * l.val; omega

/-- One tile of weights, from its four loads of code words and its two tiles of tables. -/
theorem wb_value (X2 : S2880x1x4x128.Idx → BitVec 8) (X3 X4 : S10800.Idx → EReal) (g t : ℕ) (w0 w1 w2 w3 W : S8x128.Idx → BitVec 32)
    (s o : S32x128.Idx → EReal) (c : Fin 4)
    (h0 : ∀ x l (c : Fin 4), (w0 (ix2 x l)).extractLsb' (8 * c.val) 8 = codeN X2 (row4 (32 * t + (4 * x.val + 0))) (128 * c.val + l.val))
    (h1 : ∀ x l (c : Fin 4), (w1 (ix2 x l)).extractLsb' (8 * c.val) 8 = codeN X2 (row4 (32 * t + (4 * x.val + 1))) (128 * c.val + l.val))
    (h2 : ∀ x l (c : Fin 4), (w2 (ix2 x l)).extractLsb' (8 * c.val) 8 = codeN X2 (row4 (32 * t + (4 * x.val + 2))) (128 * c.val + l.val))
    (h3 : ∀ x l (c : Fin 4), (w3 (ix2 x l)).extractLsb' (8 * c.val) 8 = codeN X2 (row4 (32 * t + (4 * x.val + 3))) (128 * c.val + l.val))
    (hW : ∀ x l B, B < 4 → (W (ix2 x l)).extractLsb' (8 * B) 8 = (pick (w0 (ix2 x l)) (w1 (ix2 x l)) (w2 (ix2 x l)) (w3 (ix2 x l)) B).extractLsb' (8 * c.val) 8)
    (hs : ∀ (P : Fin 32) l, s (ix2 P l) = at1 X3 ((15 * kOf (32 * t + P.val) + g) / 4))
    (ho : ∀ (P : Fin 32) l, o (ix2 P l) = at1 X4 ((15 * kOf (32 * t + P.val) + g) / 4))
    (ρ : Fin 16) (p : Fin 2) (l : Fin 128) :
    repack (dequant W s o) (ix3 ρ p l) = WVal X2 X3 X4 g (2 * (16 * t + ρ.val) + p.val) (128 * c.val + l.val) := by
  have hρ := ρ.isLt
  have hp := p.isLt
  rw [repack_apply, dequant_apply, hs, ho, hW _ _ _ (Nat.mod_lt _ (by decide))]
  unfold WVal
  have eP : 32 * t + (2 * ρ.val + p.val) = 2 * (16 * t + ρ.val) + p.val := by omega
  have eC : (pick (w0 (ix2 ⟨(2 * ρ.val + p.val) / 4, by omega⟩ l)) (w1 (ix2 ⟨(2 * ρ.val + p.val) / 4, by omega⟩ l))
      (w2 (ix2 ⟨(2 * ρ.val + p.val) / 4, by omega⟩ l)) (w3 (ix2 ⟨(2 * ρ.val + p.val) / 4, by omega⟩ l)) ((2 * ρ.val + p.val) % 4)).extractLsb' (8 * c.val) 8
      = codeN X2 (row4 (2 * (16 * t + ρ.val) + p.val)) (128 * c.val + l.val) := by
    have hB : (2 * ρ.val + p.val) % 4 < 4 := Nat.mod_lt _ (by decide)
    have eB : ∀ B, (2 * ρ.val + p.val) % 4 = B → 32 * t + (4 * ((2 * ρ.val + p.val) / 4) + B) = 2 * (16 * t + ρ.val) + p.val := by
      intro B hB; omega
    obtain h | h | h | h : (2 * ρ.val + p.val) % 4 = 0 ∨ (2 * ρ.val + p.val) % 4 = 1 ∨ (2 * ρ.val + p.val) % 4 = 2 ∨ (2 * ρ.val + p.val) % 4 = 3 := by omega
    · rw [← eB 0 h, h]; exact h0 _ _ c
    · rw [← eB 1 h, h]; exact h1 _ _ c
    · rw [← eB 2 h, h]; exact h2 _ _ c
    · rw [← eB 3 h, h]; exact h3 _ _ c
  rw [eP, eC]

/-- A store of the dequantization loop agrees with the weight buffer when its payload does, entry by entry. -/
theorem wb_piece (X2 : S2880x1x4x128.Idx → BitVec 8) (X3 X4 : S10800.Idx → EReal) (g t : ℕ) (c : Fin 4) (off : Fin 3 → ℕ)
    (hoff : off = ![16 * t, 0, 128 * c.val]) (inb) (pay : S16x2x128.Idx → EReal)
    (hpay : ∀ ρ p l, pay (ix3 ρ p l) = WVal X2 X3 X4 g (2 * (16 * t + ρ.val) + p.val) (128 * c.val + l.val)) (x : S16x2x128.Idx) :
    pay x = WB X2 X3 X4 g ((Rect.unit (s := S1472x2x512) off S16x2x128.size inb).emb x) := by
  have e : x = ix3 (x 0) (x 1) (x 2) := by funext a; match a with | ⟨0, _⟩ => rfl | ⟨1, _⟩ => rfl | ⟨2, _⟩ => rfl
  subst hoff
  refine (congrArg pay e).trans ((hpay _ _ _).trans ?_)
  unfold WB
  congr 1
  · show _ = 2 * (16 * t + 1 * (x 0).val) + (0 + 1 * (x 1).val); omega
  · show _ = 128 * c.val + 1 * (x 2).val; omega

/-- The words of one store, by their row and column. -/
theorem mem_off10 (t : ℕ) (c : ℕ) (off : Fin 3 → ℕ) (hoff : off = ![16 * t, 0, 128 * c]) (inb) (y : S1472x2x512.Idx)
    (h0 : (y 0).val / 16 = t) (h2 : (y 2).val / 128 = c) :
    y ∈ (Rect.unit (s := S1472x2x512) off S16x2x128.size inb).set := by
  subst hoff
  have h1 : (y 1).val < 2 := (y 1).isLt
  rw [Rect.mem_set_unit]
  intro a
  match a with
  | ⟨0, _⟩ => show 16 * t ≤ (y 0).val ∧ (y 0).val < 16 * t + 16; omega
  | ⟨1, _⟩ => show 0 ≤ (y 1).val ∧ (y 1).val < 0 + 2; omega
  | ⟨2, _⟩ => show 128 * c ≤ (y 2).val ∧ (y 2).val < 128 * c + 128; omega

/-- One trip of the dequantization loop. -/
theorem step4 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (arg0 : BitVec 32) (X2 : S2880x1x4x128.Idx → BitVec 8) (X3 X4 : S10800.Idx → EReal) (k : Fin k0_t4_loop.trips) :
    Inv4 c i arg9 arg10 arg11 arg12 X2 X3 X4 k.val
      ⊢ wp frame (wpE (defs₀ (F := Ideal)) Variants.none (c : Thread nD τ) none) Set.univ
          (k0_t4_body (F := Ideal) i arg1 harg1 arg2 harg2 arg3 harg3 arg4 harg4 arg5 harg5 arg6 harg6 arg7 harg7 arg8 harg8 arg9 harg9 arg10 harg10 arg11 harg11 arg12 harg12 arg0 k ()) (fun _ => Inv4 c i arg9 arg10 arg11 arg12 X2 X3 X4 (k.val + 1)) := by
  unfold k0_t4_body
  iintro ⟨⟨%f9, H9, %h9⟩, ⟨%f10, H10, %h10⟩, ⟨%f11, H11, %h11⟩, ⟨%f12, H12, %h12⟩⟩
  sl_exec
  sl_step
  sl_unfold_run_names
  isplitl [H9]
  · iexists _
    isplitl [H9]; · iexact H9
    ipureintro; exact h9
  isplitl [H10]
  · iexists _
    isplitl [H10]; · iexact H10
    ipureintro; exact h10
  isplitl [H11]
  · iexists _
    isplitl [H11]; · iexact H11
    ipureintro
    refine read_upTo (e := .bf16) arg11.view f11 (WB X2 X3 X4 (i 0).val) _ ?_ (fun y => (y 0).val / 16 < k.val) _ ?_ h11
    · refine List.forall_mem_cons.mpr ⟨?_, List.forall_mem_cons.mpr ⟨?_, List.forall_mem_cons.mpr ⟨?_, List.forall_mem_cons.mpr ⟨?_,
        fun _ h => absurd h List.not_mem_nil⟩⟩⟩⟩
      · intro x
        refine wb_piece X2 X3 X4 (i 0).val k.val 3 _ (off13_eq k) (k0_off13_inb k) _ ?_ x
        intro ρ p l
        exact wb_value X2 X3 X4 (i 0).val k.val _ _ _ _ _ _ _ 3 (load8 _ _ h12 k 0 _ rfl _) (load8 _ _ h12 k 1 _ rfl _) (load8 _ _ h12 k 2 _ rfl _)
          (load8 _ _ h12 k 3 _ rfl _) (odds_high _ _ _ _) (fun P l => (pay44_apply _ P l).trans (load9 _ _ h9 i k _ P l))
          (fun P l => (pay45_apply _ P l).trans (load9 _ _ h10 i k _ P l)) ρ p l
      · intro x
        refine wb_piece X2 X3 X4 (i 0).val k.val 2 _ (off12_eq k) (k0_off12_inb k) _ ?_ x
        intro ρ p l
        exact wb_value X2 X3 X4 (i 0).val k.val _ _ _ _ _ _ _ 2 (load8 _ _ h12 k 0 _ rfl _) (load8 _ _ h12 k 1 _ rfl _) (load8 _ _ h12 k 2 _ rfl _)
          (load8 _ _ h12 k 3 _ rfl _) (evens_high _ _ _ _) (fun P l => (pay44_apply _ P l).trans (load9 _ _ h9 i k _ P l))
          (fun P l => (pay45_apply _ P l).trans (load9 _ _ h10 i k _ P l)) ρ p l
      · intro x
        refine wb_piece X2 X3 X4 (i 0).val k.val 1 _ (off11_eq k) (k0_off11_inb k) _ ?_ x
        intro ρ p l
        exact wb_value X2 X3 X4 (i 0).val k.val _ _ _ _ _ _ _ 1 (load8 _ _ h12 k 0 _ rfl _) (load8 _ _ h12 k 1 _ rfl _) (load8 _ _ h12 k 2 _ rfl _)
          (load8 _ _ h12 k 3 _ rfl _) (odds_low _ _ _ _) (fun P l => (pay44_apply _ P l).trans (load9 _ _ h9 i k _ P l))
          (fun P l => (pay45_apply _ P l).trans (load9 _ _ h10 i k _ P l)) ρ p l
      · intro x
        refine wb_piece X2 X3 X4 (i 0).val k.val 0 _ (off10_eq k) (k0_off10_inb k) _ ?_ x
        intro ρ p l
        exact wb_value X2 X3 X4 (i 0).val k.val _ _ _ _ _ _ _ 0 (load8 _ _ h12 k 0 _ rfl _) (load8 _ _ h12 k 1 _ rfl _) (load8 _ _ h12 k 2 _ rfl _)
          (load8 _ _ h12 k 3 _ rfl _) (evens_low _ _ _ _) (fun P l => (pay44_apply _ P l).trans (load9 _ _ h9 i k _ P l))
          (fun P l => (pay45_apply _ P l).trans (load9 _ _ h10 i k _ P l)) ρ p l
    · intro y hy
      by_cases hd : (y 0).val / 16 < k.val
      · exact .inl hd
      · refine .inr ?_
        have h0 : (y 0).val / 16 = k.val := by omega
        have hc : (y 2).val < 512 := (y 2).isLt
        obtain h | h | h | h : (y 2).val / 128 = 0 ∨ (y 2).val / 128 = 1 ∨ (y 2).val / 128 = 2 ∨ (y 2).val / 128 = 3 := by omega
        · exact ⟨_, List.mem_cons_of_mem _ (List.mem_cons_of_mem _ (List.mem_cons_of_mem _ List.mem_cons_self)), mem_off10 k.val 0 _ (off10_eq k) (k0_off10_inb k) y h0 h⟩
        · exact ⟨_, List.mem_cons_of_mem _ (List.mem_cons_of_mem _ List.mem_cons_self), mem_off10 k.val 1 _ (off11_eq k) (k0_off11_inb k) y h0 h⟩
        · exact ⟨_, List.mem_cons_of_mem _ List.mem_cons_self, mem_off10 k.val 2 _ (off12_eq k) (k0_off12_inb k) y h0 h⟩
        · exact ⟨_, List.mem_cons_self, mem_off10 k.val 3 _ (off13_eq k) (k0_off13_inb k) y h0 h⟩
  · iexists _
    isplitl [H12]; · iexact H12
    ipureintro; exact h12

end Cert.KernelIdeal.Hand
-- ==== Proof.IdealFill.lean ====
/- Hand-written. The loops that permute the activations and lay out the scales and offsets, one trip each, and what the
   stores around them leave. -/
module

public import proofs.«01_k».proof.Proof.IdealLoops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off1_eq : ∀ t : Fin k0_t1_loop.trips, k0_off1 t = ![0, 128 * t.val] := by decide +kernel
theorem off2_eq : ∀ t : Fin k0_t1_loop.trips, k0_off2 t = ![0, 0, 128 * t.val] := by decide +kernel
theorem off3_eq : ∀ t : Fin k0_t2_loop.trips, k0_off3 t = ![128 * t.val] := by decide +kernel
theorem off4_eq : ∀ t : Fin k0_t2_loop.trips, k0_off4 t = ![0, t.val, 0] := by decide +kernel
theorem off5_eq : ∀ t : Fin k0_t2_loop.trips, k0_off5 t = ![1, t.val, 0] := by decide +kernel

theorem pay32_apply (c : EReal) (y : S2x128x128.Idx) : k0_pay32 (F := Ideal) c y = c := by
  unfold k0_pay32
  rfl
theorem pay33_apply (x : S128.Idx → EReal) (a b : Fin 1) (l : Fin 128) : k0_pay33 (F := Ideal) x (ix3 a b l) = x (ix1 l) := by
  unfold k0_pay33
  pointwise
theorem pay34_apply (x : S128.Idx → EReal) (a b : Fin 1) (l : Fin 128) : k0_pay34 (F := Ideal) x (ix3 a b l) = x (ix1 l) := by
  unfold k0_pay34
  pointwise
theorem pay35_apply (x : S48.Idx → EReal) (a b : Fin 1) (l : Fin 48) : k0_pay35 (F := Ideal) x (ix3 a b l) = x (ix1 l) := by
  unfold k0_pay35
  pointwise
theorem pay36_apply (x : S48.Idx → EReal) (a b : Fin 1) (l : Fin 48) : k0_pay36 (F := Ideal) x (ix3 a b l) = x (ix1 l) := by
  unfold k0_pay36
  pointwise

/-- The permuted activations: column `P` of row pair `a`, half `p` is the activation of row `2 a + p` at the row of weights
    that padded row `P` stands for, zero past the last. -/
def XP (X1 : S256x2880.Idx → EReal) (y : S128x2x2944.Idx) : EReal :=
  at2 X1 ⟨2 * (y 0).val + (y 1).val, by
    have h0 : (y 0).val < 128 := (y 0).isLt
    have h1 : (y 1).val < 2 := (y 1).isLt
    omega⟩ (kOf (y 2).val)

/-- The permuted activations are right on the columns written before trip `k`. -/
def XPUpTo (X1 : S256x2880.Idx → EReal) (k : ℕ) (f : S128x2x2944.Idx → EReal) : Prop := ∀ y, (y 2).val < 128 * k → f y = XP X1 y

/-- The permuted activations are right everywhere. -/
def XPOK (X1 : S256x2880.Idx → EReal) (f : S128x2x2944.Idx → EReal) : Prop := ∀ y, f y = XP X1 y

/-- What the activation loop keeps. -/
abbrev Inv1 (c : Dev nD) (arg1 : Memref sig .tc .vmem S256x2880 .bf16) (arg6 : Memref sig .tc .vmem S128x2x2944 .bf16)
    (X1 : S256x2880.Idx → EReal) (k : ℕ) : sProp 𝕄 :=
  iprop(at_ c arg1 (fun f => f = X1) ∗ at_ c arg6 (XPUpTo X1 k))

/-- The row of weights that lane `b` of chunk `t` stands for. -/
theorem kOf_chunk (t : ℕ) (b : Fin 128) : kOf (128 * t + b.val) = 128 * t + permLane b.val := by
  have hb := b.isLt
  unfold kOf
  rw [show (128 * t + b.val) / 128 = t by omega, show (128 * t + b.val) % 128 = b.val by omega]

/-- A chunk of columns stored agrees with the permuted activations when its payload does, entry by entry. -/
theorem xp_piece (X1 : S256x2880.Idx → EReal) (t : ℕ) (off : Fin 3 → ℕ) (hoff : off = ![0, 0, 128 * t]) (inb) (pay : S128x2x128.Idx → EReal)
    (hpay : ∀ a p b, pay (ix3 a p b) = at2 X1 ⟨2 * a.val + p.val, by omega⟩ (128 * t + permLane b.val)) (x : S128x2x128.Idx) :
    pay x = XP X1 ((Rect.unit (s := S128x2x2944) off S128x2x128.size inb).emb x) := by
  have e : x = ix3 (x 0) (x 1) (x 2) := by funext a; match a with | ⟨0, _⟩ => rfl | ⟨1, _⟩ => rfl | ⟨2, _⟩ => rfl
  subst hoff
  refine (congrArg pay e).trans ((hpay _ _ _).trans ?_)
  unfold XP
  congr 1
  · apply Fin.ext
    show 2 * (x 0).val + (x 1).val = 2 * (0 + 1 * (x 0).val) + (0 + 1 * (x 1).val); omega
  · refine (kOf_chunk t (x 2)).symm.trans ?_
    congr 1
    show _ = 128 * t + 1 * (x 2).val; omega

/-- The columns of one chunk, by their number. -/
theorem mem_off2 (t : ℕ) (off : Fin 3 → ℕ) (hoff : off = ![0, 0, 128 * t]) (inb) (y : S128x2x2944.Idx) (h : (y 2).val / 128 = t) :
    y ∈ (Rect.unit (s := S128x2x2944) off S128x2x128.size inb).set := by
  subst hoff
  have h0 : (y 0).val < 128 := (y 0).isLt
  have h1 : (y 1).val < 2 := (y 1).isLt
  rw [Rect.mem_set_unit]
  intro a
  match a with
  | ⟨0, _⟩ => show 0 ≤ (y 0).val ∧ (y 0).val < 0 + 128; omega
  | ⟨1, _⟩ => show 0 ≤ (y 1).val ∧ (y 1).val < 0 + 2; omega
  | ⟨2, _⟩ => show 128 * t ≤ (y 2).val ∧ (y 2).val < 128 * t + 128; omega

/-- A chunk of the activations loaded: its entries. -/
theorem load1 (X1 : S256x2880.Idx → EReal) (v : View sig .tc .vmem S256x2880 .bf16) (f : v.ty.Contents (Elt Ideal))
    (h1 : v.read (Elt Ideal) f = X1) (t : Fin k0_t1_loop.trips) (inb) (r : Fin 256) (b : Fin 128) :
    View.readAt (Elt Ideal) v (Rect.unit (s := S256x2880) (k0_off1 t) S256x128.size inb).toLoadRect f (ix2 r b) = at2 X1 r (128 * t.val + b.val) := by
  have ht : t.val < 22 := t.isLt
  have hb : 128 * t.val + b.val < 2880 := by omega
  rw [readAt_at v _ f _ (ix2 r ⟨128 * t.val + b.val, hb⟩)]
  · rw [h1]; unfold at2; rw [dif_pos hb]
  · intro a
    match a with
    | ⟨0, _⟩ => show _ = k0_off1 t 0 + 1 * r.val; rw [off1_eq]; show r.val = 0 + 1 * r.val; omega
    | ⟨1, _⟩ => show _ = k0_off1 t 1 + 1 * b.val; rw [off1_eq]; show _ = 128 * t.val + 1 * b.val; simp

/-- The last chunk of the activations loaded: its entries. -/
theorem load1_last (X1 : S256x2880.Idx → EReal) (v : View sig .tc .vmem S256x2880 .bf16) (f : v.ty.Contents (Elt Ideal))
    (h1 : v.read (Elt Ideal) f = X1) (inb) (r : Fin 256) (b : Fin 64) :
    View.readAt (Elt Ideal) v (Rect.unit (s := S256x2880) ![0, 2816] S256x64.size inb).toLoadRect f (ix2 r b) = at2 X1 r (2816 + b.val) := by
  have hb : 2816 + b.val < 2880 := by omega
  rw [readAt_at v _ f _ (ix2 r ⟨2816 + b.val, hb⟩)]
  · rw [h1]; unfold at2; rw [dif_pos hb]
  · intro a
    match a with
    | ⟨0, _⟩ => show r.val = 0 + 1 * r.val; omega
    | ⟨1, _⟩ => show 2816 + b.val = 2816 + 1 * b.val; omega

/-- One trip of the activation loop. -/
theorem step1 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (X1 : S256x2880.Idx → EReal) (k0_h1 : k0_cond1 i = 1#1) (k : Fin k0_t1_loop.trips) :
    Inv1 c arg1 arg6 X1 k.val
      ⊢ wp frame (wpE (defs₀ (F := Ideal)) Variants.none (c : Thread nD τ) none) Set.univ
          (k0_t1_body (F := Ideal) i arg1 harg1 arg2 harg2 arg3 harg3 arg4 harg4 arg5 harg5 arg6 harg6 arg7 harg7 arg8 harg8 arg9 harg9 arg10 harg10 arg11 harg11 arg12 harg12 k0_h1 k ()) (fun _ => Inv1 c arg1 arg6 X1 (k.val + 1)) := by
  unfold k0_t1_body
  iintro ⟨⟨%f1, H1, %h1⟩, ⟨%f6, H6, %h6⟩⟩
  sl_exec
  sl_step
  sl_unfold_run_names
  isplitl [H1]
  · iexists _
    isplitl [H1]; · iexact H1
    ipureintro; exact h1
  · iexists _
    isplitl [H6]; · iexact H6
    ipureintro
    refine read_upTo (e := .bf16) arg6.view f6 (XP X1) _ ?_ (fun y => (y 2).val < 128 * k.val) _ ?_ h6
    · refine List.forall_mem_cons.mpr ⟨?_, fun _ h => absurd h List.not_mem_nil⟩
      intro x
      refine xp_piece X1 k.val _ (off2_eq k) (k0_off2_inb i k k0_h1) _ ?_ x
      intro a p b
      exact (pay30_apply _ a p b).trans (load1 X1 _ _ h1 k _ _ _)
    · intro y hy
      by_cases hd : (y 2).val < 128 * k.val
      · exact .inl hd
      · exact .inr ⟨_, List.mem_cons_self, mem_off2 k.val _ (off2_eq k) (k0_off2_inb i k k0_h1) y (by omega)⟩

/-- The scales and offsets laid out flat: plane 0 the scales, plane 1 the offsets, 128 to a row, zero past the end. -/
def Flat (X3 X4 : S10800.Idx → EReal) (y : S2x128x128.Idx) : EReal :=
  at1 (if (y 0).val = 0 then X3 else X4) (128 * (y 1).val + (y 2).val)

/-- The rows before trip `k` are laid out, the others zero. -/
def FlatUpTo (X3 X4 : S10800.Idx → EReal) (k : ℕ) (f : S2x128x128.Idx → EReal) : Prop :=
  ∀ y, f y = if (y 1).val < k then Flat X3 X4 y else 0

/-- What the layout loop keeps. -/
abbrev Inv2 (c : Dev nD) (arg3 arg4 : Memref sig .tc .vmem S10800 .f32) (arg7 : Memref sig .tc .vmem S2x128x128 .f32)
    (X3 X4 : S10800.Idx → EReal) (k : ℕ) : sProp 𝕄 :=
  iprop(at_ c arg3 (fun f => f = X3) ∗ at_ c arg4 (fun f => f = X4) ∗ at_ c arg7 (FlatUpTo X3 X4 k))

/-- Consecutive scales (or offsets) loaded: the entries. -/
theorem load3 {n : ℕ} (X : S10800.Idx → EReal) (v : View sig .tc .vmem S10800 .f32) (f : v.ty.Contents (Elt Ideal))
    (h : v.read (Elt Ideal) f = X) (off : Fin 1 → ℕ) (o : ℕ) (hoff : off = ![o]) (ho : o + n ≤ 10800) (inb) (l : Fin n) :
    View.readAt (Elt Ideal) v (Rect.unit (s := S10800) off ![n] inb).toLoadRect f (ix1 l) = at1 X (o + l.val) := by
  have hb : o + l.val < 10800 := by omega
  subst hoff
  rw [readAt_at v _ f _ (ix1 ⟨o + l.val, hb⟩)]
  · rw [h]; unfold at1; rw [dif_pos hb]
  · intro a
    match a with
    | ⟨0, _⟩ => show o + l.val = o + 1 * l.val; omega

/-- A stored row agrees with the flat layout when its payload does. -/
theorem flat_piece {n : ℕ} (X3 X4 : S10800.Idx → EReal) (G : S2x128x128.Idx → EReal) (q : Fin 2) (t : ℕ) (off : Fin 3 → ℕ)
    (hoff : off = ![q.val, t, 0]) (inb) (pay : Shape.Idx ⟨3, ![1, 1, n]⟩ → EReal)
    (hG : ∀ y : S2x128x128.Idx, (y 1).val = t → G y = Flat X3 X4 y)
    (hpay : ∀ a b l, pay (ix3 a b l) = at1 (if q.val = 0 then X3 else X4) (128 * t + l.val)) (x : Shape.Idx ⟨3, ![1, 1, n]⟩) :
    pay x = G ((Rect.unit (s := S2x128x128) off ![1, 1, n] inb).emb x) := by
  have e : x = ix3 (x 0) (x 1) (x 2) := by funext a; match a with | ⟨0, _⟩ => rfl | ⟨1, _⟩ => rfl | ⟨2, _⟩ => rfl
  have h0 : (x 0).val < 1 := (x 0).isLt
  have h1 : (x 1).val < 1 := (x 1).isLt
  subst hoff
  rw [hG _ (by show t + 1 * (x 1).val = t; omega)]
  refine (congrArg pay e).trans ((hpay _ _ _).trans ?_)
  unfold Flat
  congr 1
  · show _ = if q.val + 1 * (x 0).val = 0 then X3 else X4
    rw [show q.val + 1 * (x 0).val = q.val by omega]
  · show _ = 128 * (t + 1 * (x 1).val) + (0 + 1 * (x 2).val); omega

/-- The places of one stored row. -/
theorem mem_row {n : ℕ} (q : Fin 2) (t : ℕ) (off : Fin 3 → ℕ) (hoff : off = ![q.val, t, 0]) (inb) (y : S2x128x128.Idx)
    (h0 : (y 0).val = q.val) (h1 : (y 1).val = t) (h2 : (y 2).val < n) :
    y ∈ (Rect.unit (s := S2x128x128) off ![1, 1, n] inb).set := by
  subst hoff
  rw [Rect.mem_set_unit]
  intro a
  match a with
  | ⟨0, _⟩ => show q.val ≤ (y 0).val ∧ (y 0).val < q.val + 1; omega
  | ⟨1, _⟩ => show t ≤ (y 1).val ∧ (y 1).val < t + 1; omega
  | ⟨2, _⟩ => show 0 ≤ (y 2).val ∧ (y 2).val < 0 + n; omega

/-- One trip of the layout loop. -/
theorem step2 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (cst : EReal) (X3 X4 : S10800.Idx → EReal) (k0_h1 : k0_cond1 i = 1#1) (k : Fin k0_t2_loop.trips) :
    Inv2 c arg3 arg4 arg7 X3 X4 k.val
      ⊢ wp frame (wpE (defs₀ (F := Ideal)) Variants.none (c : Thread nD τ) none) Set.univ
          (k0_t2_body (F := Ideal) i arg1 harg1 arg2 harg2 arg3 harg3 arg4 harg4 arg5 harg5 arg6 harg6 arg7 harg7 arg8 harg8 arg9 harg9 arg10 harg10 arg11 harg11 arg12 harg12 k0_h1 cst k ()) (fun _ => Inv2 c arg3 arg4 arg7 X3 X4 (k.val + 1)) := by
  have hk : k.val < 84 := k.isLt
  unfold k0_t2_body
  iintro ⟨⟨%f3, H3, %h3⟩, ⟨%f4, H4, %h4⟩, ⟨%f7, H7, %h7⟩⟩
  sl_exec
  sl_step
  sl_unfold_run_names
  isplitl [H3]
  · iexists _
    isplitl [H3]; · iexact H3
    ipureintro; exact h3
  isplitl [H4]
  · iexists _
    isplitl [H4]; · iexact H4
    ipureintro; exact h4
  · iexists _
    isplitl [H7]; · iexact H7
    ipureintro
    have hG : ∀ y : S2x128x128.Idx, (y 1).val = k.val → (if (y 1).val < k.val + 1 then Flat X3 X4 y else 0) = Flat X3 X4 y := by
      intro y hy; rw [if_pos (by omega)]
    intro y
    refine read_upTo (e := .f32) arg7.view f7 (fun y => if (y 1).val < k.val + 1 then Flat X3 X4 y else 0) _ ?_ (fun y => (y 1).val ≠ k.val) (fun _ => True) ?_ ?_ y trivial
    · refine List.forall_mem_cons.mpr ⟨?_, List.forall_mem_cons.mpr ⟨?_, fun _ h => absurd h List.not_mem_nil⟩⟩
      · intro x
        refine flat_piece X3 X4 _ 1 k.val _ (off5_eq k) (k0_off5_inb i k k0_h1) _ hG ?_ x
        intro a b l
        exact (pay34_apply _ a b l).trans (load3 X4 _ _ h4 _ _ (off3_eq k) (by omega) (k0_off3_inb i k k0_h1) l)
      · intro x
        refine flat_piece X3 X4 _ 0 k.val _ (off4_eq k) (k0_off4_inb i k k0_h1) _ hG ?_ x
        intro a b l
        exact (pay33_apply _ a b l).trans (load3 X3 _ _ h3 _ _ (off3_eq k) (by omega) (k0_off3_inb i k k0_h1) l)
    · intro y _
      have h0 : (y 0).val < 2 := (y 0).isLt
      have h2 : (y 2).val < 128 := (y 2).isLt
      by_cases hd : (y 1).val = k.val
      · obtain h | h : (y 0).val = 0 ∨ (y 0).val = 1 := by omega
        · exact .inr ⟨_, List.mem_cons_of_mem _ List.mem_cons_self, mem_row 0 k.val _ (off4_eq k) (k0_off4_inb i k k0_h1) y h hd h2⟩
        · exact .inr ⟨_, List.mem_cons_self, mem_row 1 k.val _ (off5_eq k) (k0_off5_inb i k k0_h1) y h hd h2⟩
      · exact .inl hd
    · intro y hy
      refine (h7 y).trans ?_
      by_cases hd : (y 1).val < k.val
      · rw [if_pos hd, if_pos (by omega)]
      · rw [if_neg hd, if_neg (by omega)]

end Cert.KernelIdeal.Hand
-- ==== Proof.IdealBody.lean ====
/- Hand-written. One run of the kernel body over the idealized numbers: what it leaves in its output block and in the buffers
   that the next run reads. -/
module

public import proofs.«01_k».proof.Proof.IdealFill

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The output block of a run: one activation row times one column of dequantized weights, over the padded rows. -/
def outBlk (X1 : S256x2880.Idx → EReal) (X2 : S2880x1x4x128.Idx → BitVec 8) (X3 X4 : S10800.Idx → EReal) (g : ℕ) (y : S256x512.Idx) : EReal :=
  ∑ P : Fin 2944, at2 X1 (y 0) (kOf P.val) * WVal X2 X3 X4 g P.val (y 1).val

/-- A memref owned at contents that satisfy `P`. -/
abbrev has (c : Dev nD) {sp : Space} {S : Shape} {e : EltTy} (M : Memref sig .tc sp S e) (P : (S.Idx → Elt Ideal e) → Prop) : sProp 𝕄 :=
  iprop(∃ d : S.Idx → Elt Ideal e, owns (c : Thread nD τ) M fullShare d ∗ ⌜P d⌝)

/-- A rectangle of the whole shape at the origin holds every place. -/
theorem mem_zero {s : Shape} (off : Fin s.rank → ℕ) (h : ∀ a, off a = 0) (inb) (y : s.Idx) : y ∈ (Rect.unit (s := s) off s.size inb).set := by
  rw [Rect.mem_set_unit]
  intro a
  rw [h a]
  exact ⟨Nat.zero_le _, by rw [Nat.zero_add]; exact (y a).isLt⟩

/-- A rectangle of the whole shape at the origin puts every place where it is. -/
theorem emb_zero {s : Shape} (off : Fin s.rank → ℕ) (h : ∀ a, off a = 0) (inb) (y : s.Idx) : (Rect.unit (s := s) off s.size inb).emb y = y := by
  funext a
  apply Fin.ext
  show off a + 1 * (y a).val = (y a).val
  rw [h a]; omega

/-- A load of the whole buffer reads the buffer. -/
theorem readAt_zero {sp : Space} {S : Shape} {e : EltTy} (v : View sig .tc sp S e) (off : Fin S.rank → ℕ) (h : ∀ a, off a = 0) (inb)
    (f : v.ty.Contents (Elt Ideal)) (y : S.Idx) :
    View.readAt (Elt Ideal) v (Rect.unit (s := S) off S.size inb).toLoadRect f y = v.read (Elt Ideal) f y :=
  readAt_at v (Rect.unit (s := S) off S.size inb).toLoadRect f y y fun a => by
    show (y a).val = off a + 1 * (y a).val
    rw [h a]; omega

/-- A store of the whole buffer leaves its payload. -/
theorem read_whole {sp : Space} {S : Shape} {e : EltTy} (v : View sig .tc sp S e) (f : v.ty.Contents (Elt Ideal)) (off : Fin S.rank → ℕ)
    (h : ∀ a, off a = 0) (inb) (pay : S.Idx → Elt Ideal e) (y : S.Idx) :
    v.read (Elt Ideal) (v.writes (Elt Ideal) f [⟨Rect.unit (s := S) off S.size inb, pay⟩]) y = pay y := by
  refine read_upTo v f pay _ ?_ (fun _ => False) (fun _ => True) (fun y _ => .inr ⟨_, List.mem_cons_self, mem_zero off h inb y⟩)
    (fun _ h => h.elim) y trivial
  refine List.forall_mem_cons.mpr ⟨fun x => ?_, fun _ h => absurd h List.not_mem_nil⟩
  exact congrArg pay (emb_zero off h inb x).symm

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

/-- The last chunk of activations stored, the permuted activations are right everywhere. -/
theorem xp_last (X1 : S256x2880.Idx → EReal) (v1 : View sig .tc .vmem S256x2880 .bf16) (f1 : v1.ty.Contents (Elt Ideal))
    (h1 : v1.read (Elt Ideal) f1 = X1) (v6 : View sig .tc .vmem S128x2x2944 .bf16) (f6 : v6.ty.Contents (Elt Ideal))
    (h6 : XPUpTo X1 k0_t1_loop.trips (v6.read (Elt Ideal) f6)) (inb inb') :
    XPOK X1 (v6.read (Elt Ideal) (v6.writes (Elt Ideal) f6 [⟨Rect.unit (s := S128x2x2944) ![0, 0, 2816] S128x2x128.size inb,
      k0_pay31 (F := Ideal) (View.readAt (Elt Ideal) v1 (Rect.unit (s := S256x2880) ![0, 2816] S256x64.size inb').toLoadRect f1)⟩])) := by
  intro y
  refine read_upTo (e := .bf16) v6 f6 (XP X1) _ ?_ (fun y => (y 2).val < 128 * k0_t1_loop.trips) (fun _ => True) ?_ h6 y trivial
  · refine List.forall_mem_cons.mpr ⟨?_, fun _ h => absurd h List.not_mem_nil⟩
    intro x
    refine xp_piece X1 22 _ rfl inb _ ?_ x
    intro a p b
    refine (pay31_apply _ a p b).trans ?_
    split
    · exact load1_last X1 _ _ h1 _ _ _
    · unfold at2
      rw [dif_neg (by omega)]
  · intro y _
    have h2 : (y 2).val < 2944 := (y 2).isLt
    have ht : k0_t1_loop.trips = 22 := rfl
    by_cases hd : (y 2).val < 128 * k0_t1_loop.trips
    · exact .inl hd
    · exact .inr ⟨_, List.mem_cons_self, mem_off2 22 _ rfl inb y (by omega)⟩

/-- The partial last row stored, the flat layout is right everywhere. -/
theorem flat_last (X3 X4 : S10800.Idx → EReal) (v3 v4 : View sig .tc .vmem S10800 .f32) (f3 : v3.ty.Contents (Elt Ideal)) (f4 : v4.ty.Contents (Elt Ideal))
    (h3 : v3.read (Elt Ideal) f3 = X3) (h4 : v4.read (Elt Ideal) f4 = X4) (v7 : View sig .tc .vmem S2x128x128 .f32)
    (f7 : v7.ty.Contents (Elt Ideal)) (h7 : FlatUpTo X3 X4 k0_t2_loop.trips (v7.read (Elt Ideal) f7)) (inb0 inb1 inb3 inb4) (y : S2x128x128.Idx) :
    v7.read (Elt Ideal) (v7.writes (Elt Ideal) f7 [
      ⟨Rect.unit (s := S2x128x128) ![1, 84, 0] S1x1x48.size inb1,
        k0_pay36 (F := Ideal) (View.readAt (Elt Ideal) v4 (Rect.unit (s := S10800) ![10752] S48.size inb4).toLoadRect f4)⟩,
      ⟨Rect.unit (s := S2x128x128) ![0, 84, 0] S1x1x48.size inb0,
        k0_pay35 (F := Ideal) (View.readAt (Elt Ideal) v3 (Rect.unit (s := S10800) ![10752] S48.size inb3).toLoadRect f3)⟩]) y = Flat X3 X4 y := by
  have ht : k0_t2_loop.trips = 84 := rfl
  refine read_upTo (e := .f32) v7 f7 (Flat X3 X4) _ ?_ (fun y => ¬((y 1).val = 84 ∧ (y 2).val < 48)) (fun _ => True) ?_ ?_ y trivial
  · refine List.forall_mem_cons.mpr ⟨?_, List.forall_mem_cons.mpr ⟨?_, fun _ h => absurd h List.not_mem_nil⟩⟩
    · intro x
      refine flat_piece X3 X4 _ 1 84 _ rfl inb1 _ (fun _ _ => rfl) ?_ x
      intro a b l
      exact (pay36_apply _ a b l).trans (load3 X4 _ _ h4 _ _ rfl (by omega) inb4 l)
    · intro x
      refine flat_piece X3 X4 _ 0 84 _ rfl inb0 _ (fun _ _ => rfl) ?_ x
      intro a b l
      exact (pay35_apply _ a b l).trans (load3 X3 _ _ h3 _ _ rfl (by omega) inb3 l)
  · intro y _
    have h0 : (y 0).val < 2 := (y 0).isLt
    by_cases hd : (y 1).val = 84 ∧ (y 2).val < 48
    · obtain h | h : (y 0).val = 0 ∨ (y 0).val = 1 := by omega
      · exact .inr ⟨_, List.mem_cons_of_mem _ List.mem_cons_self, mem_row 0 84 _ rfl inb0 y h hd.1 hd.2⟩
      · exact .inr ⟨_, List.mem_cons_self, mem_row 1 84 _ rfl inb1 y h hd.1 hd.2⟩
    · exact .inl hd
  · intro y hy
    have h2 : (y 2).val < 128 := (y 2).isLt
    refine (h7 y).trans ?_
    split
    · rfl
    · unfold Flat at1
      rw [dif_neg (by omega)]

/-- What the two stores of scale-offset words leave: row `l`, half `p`, lane `r`. -/
def Ext (X3 X4 : S10800.Idx → EReal) (y : S256x2x128.Idx) : EReal :=
  at1 (if (y 1).val % 2 = 0 then X3 else X4)
    (128 * (if (y 0).val < 128 then (y 2).val else ((y 2).val + 1) % 128) + (y 0).val % 128)

/-- The first store of scale-offset words. -/
theorem ext_piece0 (X3 X4 : S10800.Idx → EReal) (u v : S1x128x128.Idx → EReal) (hu : ∀ r l, u (ix3 0 r l) = at1 X3 (128 * r.val + l.val))
    (hv : ∀ r l, v (ix3 0 r l) = at1 X4 (128 * r.val + l.val)) (inb) (x : S128x2x128.Idx) :
    k0_pay39 (F := Ideal) u v x = Ext X3 X4 ((Rect.unit (s := S256x2x128) ![0, 0, 0] S128x2x128.size inb).emb x) := by
  have e : x = ix3 (x 0) (x 1) (x 2) := by funext a; match a with | ⟨0, _⟩ => rfl | ⟨1, _⟩ => rfl | ⟨2, _⟩ => rfl
  have h0 : (x 0).val < 128 := (x 0).isLt
  refine (congrArg _ e).trans ((pay39_apply u v (x 0) (x 1) (x 2)).trans ?_)
  have e0 : (((Rect.unit (s := S256x2x128) ![0, 0, 0] S128x2x128.size inb).emb x) 0).val = (x 0).val := by
    show 0 + 1 * (x 0).val = _; omega
  have e1 : (((Rect.unit (s := S256x2x128) ![0, 0, 0] S128x2x128.size inb).emb x) 1).val = (x 1).val := by
    show 0 + 1 * (x 1).val = _; omega
  have e2 : (((Rect.unit (s := S256x2x128) ![0, 0, 0] S128x2x128.size inb).emb x) 2).val = (x 2).val := by
    show 0 + 1 * (x 2).val = _; omega
  unfold Ext
  rw [e0, e1, e2, if_pos h0, show (x 0).val % 128 = (x 0).val by omega]
  split
  · exact hu _ _
  · exact hv _ _

/-- The second store of scale-offset words. -/
theorem ext_piece1 (X3 X4 : S10800.Idx → EReal) (u v : S1x128x128.Idx → EReal) (hu : ∀ r l, u (ix3 0 r l) = at1 X3 (128 * r.val + l.val))
    (hv : ∀ r l, v (ix3 0 r l) = at1 X4 (128 * r.val + l.val)) (inb) (x : S128x2x128.Idx) :
    k0_pay1 (F := Ideal) (k0_pay37 u) (k0_pay38 v) 127#32 x = Ext X3 X4 ((Rect.unit (s := S256x2x128) ![128, 0, 0] S128x2x128.size inb).emb x) := by
  have e : x = ix3 (x 0) (x 1) (x 2) := by funext a; match a with | ⟨0, _⟩ => rfl | ⟨1, _⟩ => rfl | ⟨2, _⟩ => rfl
  have h0 : (x 0).val < 128 := (x 0).isLt
  refine (congrArg _ e).trans ((pay1_apply u v (x 0) (x 1) (x 2)).trans ?_)
  have e0 : (((Rect.unit (s := S256x2x128) ![128, 0, 0] S128x2x128.size inb).emb x) 0).val = 128 + (x 0).val := by
    show 128 + 1 * (x 0).val = _; omega
  have e1 : (((Rect.unit (s := S256x2x128) ![128, 0, 0] S128x2x128.size inb).emb x) 1).val = (x 1).val := by
    show 0 + 1 * (x 1).val = _; omega
  have e2 : (((Rect.unit (s := S256x2x128) ![128, 0, 0] S128x2x128.size inb).emb x) 2).val = (x 2).val := by
    show 0 + 1 * (x 2).val = _; omega
  unfold Ext
  rw [e0, e1, e2, if_neg (show ¬ (128 + (x 0).val < 128) by omega), show (128 + (x 0).val) % 128 = (x 0).val by omega]
  split
  · exact hu _ _
  · exact hv _ _

/-- The two stores of scale-offset words leave them right. -/
theorem ext_ok (X3 X4 : S10800.Idx → EReal) (u v : S1x128x128.Idx → EReal) (hu : ∀ r l, u (ix3 0 r l) = at1 X3 (128 * r.val + l.val))
    (hv : ∀ r l, v (ix3 0 r l) = at1 X4 (128 * r.val + l.val)) (v8 : View sig .tc .vmem S256x2x128 .bf16) (f8 : v8.ty.Contents (Elt Ideal)) (inb0 inb1) :
    ExtOK X3 X4 (v8.read (Elt Ideal) (v8.writes (Elt Ideal) f8 [
      ⟨Rect.unit (s := S256x2x128) ![128, 0, 0] S128x2x128.size inb1, k0_pay1 (F := Ideal) (k0_pay37 u) (k0_pay38 v) 127#32⟩,
      ⟨Rect.unit (s := S256x2x128) ![0, 0, 0] S128x2x128.size inb0, k0_pay39 (F := Ideal) u v⟩])) := by
  have key : ∀ y, v8.read (Elt Ideal) (v8.writes (Elt Ideal) f8 [
      ⟨Rect.unit (s := S256x2x128) ![128, 0, 0] S128x2x128.size inb1, k0_pay1 (F := Ideal) (k0_pay37 u) (k0_pay38 v) 127#32⟩,
      ⟨Rect.unit (s := S256x2x128) ![0, 0, 0] S128x2x128.size inb0, k0_pay39 (F := Ideal) u v⟩]) y = Ext X3 X4 y := by
    intro y
    refine read_upTo (e := .bf16) v8 f8 (Ext X3 X4) _ ?_ (fun _ => False) (fun _ => True) ?_ (fun _ h => h.elim) y trivial
    · exact List.forall_mem_cons.mpr ⟨ext_piece1 X3 X4 u v hu hv inb1, List.forall_mem_cons.mpr ⟨ext_piece0 X3 X4 u v hu hv inb0,
        fun _ h => absurd h List.not_mem_nil⟩⟩
    · intro y _
      have h0 : (y 0).val < 256 := (y 0).isLt
      have h1 : (y 1).val < 2 := (y 1).isLt
      have h2 : (y 2).val < 128 := (y 2).isLt
      refine .inr ?_
      by_cases h : (y 0).val < 128
      · refine ⟨_, List.mem_cons_of_mem _ List.mem_cons_self, ?_⟩
        rw [Rect.mem_set_unit]
        intro a
        match a with
        | ⟨0, _⟩ => show 0 ≤ (y 0).val ∧ (y 0).val < 0 + 128; omega
        | ⟨1, _⟩ => show 0 ≤ (y 1).val ∧ (y 1).val < 0 + 2; omega
        | ⟨2, _⟩ => show 0 ≤ (y 2).val ∧ (y 2).val < 0 + 128; omega
      · refine ⟨_, List.mem_cons_self, ?_⟩
        rw [Rect.mem_set_unit]
        intro a
        match a with
        | ⟨0, _⟩ => show 128 ≤ (y 0).val ∧ (y 0).val < 128 + 128; omega
        | ⟨1, _⟩ => show 0 ≤ (y 1).val ∧ (y 1).val < 0 + 2; omega
        | ⟨2, _⟩ => show 0 ≤ (y 2).val ∧ (y 2).val < 0 + 128; omega
  intro l p r hr
  refine (key _).trans ?_
  have hl := l.isLt
  unfold Ext
  show at1 (if p.val % 2 = 0 then X3 else X4) (128 * (if l.val < 128 then r.val else (r.val + 1) % 128) + l.val % 128) = _
  congr 1
  split <;> omega

/-- A plane of the flat layout, loaded. -/
theorem load7 {X3 X4 : S10800.Idx → EReal} (v : View sig .tc .vmem S2x128x128 .f32) (f : v.ty.Contents (Elt Ideal))
    (h7 : ∀ y, v.read (Elt Ideal) f y = Flat X3 X4 y) (q : Fin 2) (off : Fin 3 → ℕ) (hoff : off = ![q.val, 0, 0]) (inb) (r l : Fin 128) :
    View.readAt (Elt Ideal) v (Rect.unit (s := S2x128x128) off S1x128x128.size inb).toLoadRect f (ix3 0 r l)
      = at1 (if q.val = 0 then X3 else X4) (128 * r.val + l.val) := by
  subst hoff
  rw [readAt_at v _ f _ (ix3 q r l)]
  · exact h7 _
  · intro a
    match a with
    | ⟨0, _⟩ => show q.val = q.val + 1 * 0; omega
    | ⟨1, _⟩ => show r.val = 0 + 1 * r.val; omega
    | ⟨2, _⟩ => show l.val = 0 + 1 * l.val; omega

/-- After its last trip the table loop has written every word row. -/
theorem table_all (X : S10800.Idx → EReal) (f : S5520x2x128.Idx → EReal) (h : TableUpTo X k0_t3_loop.trips f) : TableOK X f := by
  intro y
  have h0 : (y 0).val < 5520 := (y 0).isLt
  have ht : k0_t3_loop.trips = 345 := rfl
  refine h y ?_
  unfold Done3
  rw [ht]
  have : (y 0).val / 16 < 345 := by omega
  generalize (y 0).val / 16 = q at *
  omega

/-- The code words stored hold the codes. -/
theorem words_ok (X2 : S2880x1x4x128.Idx → BitVec 8) (v2 : View sig .tc .vmem S2880x1x4x128 .i8) (f2 : v2.ty.Contents (Elt Ideal))
    (h2 : v2.read (Elt Ideal) f2 = X2) (v12 : View sig .tc .vmem S2880x128 .i32) (f12 : v12.ty.Contents (Elt Ideal)) (inb inb') :
    WordsOK X2 (v12.read (Elt Ideal) (v12.writes (Elt Ideal) f12 [⟨Rect.unit (s := S2880x128) ![0, 0] S2880x128.size inb,
      k0_pay4 (F := Ideal) (View.readAt (Elt Ideal) v2 (Rect.unit (s := S2880x1x4x128) ![0, 0, 0, 0] S2880x1x4x128.size inb').toLoadRect f2)⟩])) := by
  intro k l cc
  rw [read_whole (e := .i32) v12 f12 _ zero2 inb _ (ix2 k l)]
  refine (pay4_byte _ k l cc).trans ?_
  rw [readAt_zero (e := .i8) v2 _ zero4 inb' f2, h2]

/-- The output block stored is the block of sums. -/
theorem out_ok (X1 : S256x2880.Idx → EReal) (X2 : S2880x1x4x128.Idx → BitVec 8) (X3 X4 : S10800.Idx → EReal) (g : ℕ)
    (v6 : View sig .tc .vmem S128x2x2944 .bf16) (f6 : v6.ty.Contents (Elt Ideal)) (h6 : XPOK X1 (v6.read (Elt Ideal) f6))
    (v11 : View sig .tc .vmem S1472x2x512 .bf16) (f11 : v11.ty.Contents (Elt Ideal))
    (h11 : WBUpTo X2 X3 X4 g k0_t4_loop.trips (v11.read (Elt Ideal) f11))
    (v5 : View sig .tc .vmem S256x512 .bf16) (f5 : v5.ty.Contents (Elt Ideal)) (inb5 inb6 inb11) :
    v5.read (Elt Ideal) (v5.writes (Elt Ideal) f5 [⟨Rect.unit (s := S256x512) ![0, 0] S256x512.size inb5,
      k0_pay6 (F := Ideal) (View.readAt (Elt Ideal) v6 (Rect.unit (s := S128x2x2944) ![0, 0, 0] S128x2x2944.size inb6).toLoadRect f6)
        (View.readAt (Elt Ideal) v11 (Rect.unit (s := S1472x2x512) ![0, 0, 0] S1472x2x512.size inb11).toLoadRect f11)⟩])
      = outBlk X1 X2 X3 X4 g := by
  funext y
  have e : y = ix2 (y 0) (y 1) := by funext a; match a with | ⟨0, _⟩ => rfl | ⟨1, _⟩ => rfl
  refine (read_whole (e := .bf16) v5 f5 _ zero2 inb5 _ y).trans ?_
  refine (congrArg _ e).trans ((pay6_apply _ _ _ _).trans ?_)
  unfold outBlk
  refine Finset.sum_congr rfl fun P _ => ?_
  have hP := P.isLt
  have ht : k0_t4_loop.trips = 92 := rfl
  rw [readAt_zero (e := .bf16) v6 _ zero3 inb6 f6, readAt_zero (e := .bf16) v11 _ zero3 inb11 f11, h6, h11 _ (by show P.val / 2 / 16 < _; omega)]
  unfold XP WB
  congr 1
  · congr 1
    apply Fin.ext
    show 2 * ((y 0).val / 2) + (y 0).val % 2 = (y 0).val; omega
  · show WVal X2 X3 X4 g (2 * (P.val / 2) + P.val % 2) (y 1).val = _
    rw [show 2 * (P.val / 2) + P.val % 2 = P.val by omega]

/-- One run of the body. The first run lays out activations, scales and offsets; the later ones find them laid out; every run
    leaves its block of sums. -/
theorem bodyRun (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole)
    (X1 : S256x2880.Idx → EReal) (X2 : S2880x1x4x128.Idx → BitVec 8)
    (X3 X4 : S10800.Idx → EReal)
    (W : Waits sig Unit) (K : PUnit → sProp 𝕄) :
    iprop((owns (c : Thread nD τ) arg1 fullShare X1) ∗ (owns (c : Thread nD τ) arg2 fullShare X2)
        ∗ (owns (c : Thread nD τ) arg3 fullShare X3) ∗ (owns (c : Thread nD τ) arg4 fullShare X4)
        ∗ (∃ d, owns (c : Thread nD τ) arg5 fullShare d)
        ∗ has c arg6 (fun d => ¬ k0_cond1 i = 1#1 → XPOK X1 d) ∗ (∃ d, owns (c : Thread nD τ) arg7 fullShare d)
        ∗ (∃ d, owns (c : Thread nD τ) arg8 fullShare d) ∗ has c arg9 (fun d => ¬ k0_cond1 i = 1#1 → TableOK X3 d)
        ∗ has c arg10 (fun d => ¬ k0_cond1 i = 1#1 → TableOK X4 d) ∗ (∃ d, owns (c : Thread nD τ) arg11 fullShare d)
        ∗ (∃ d, owns (c : Thread nD τ) arg12 fullShare d)
        ∗ owes (c : Thread nD τ) 0 W
        ∗ (iprop((owns (c : Thread nD τ) arg1 fullShare X1) ∗ (owns (c : Thread nD τ) arg2 fullShare X2)
        ∗ (owns (c : Thread nD τ) arg3 fullShare X3) ∗ (owns (c : Thread nD τ) arg4 fullShare X4)
        ∗ (owns (c : Thread nD τ) arg5 fullShare (outBlk X1 X2 X3 X4 (i 0).val))
        ∗ has c arg6 (XPOK X1) ∗ (∃ d, owns (c : Thread nD τ) arg7 fullShare d)
        ∗ (∃ d, owns (c : Thread nD τ) arg8 fullShare d) ∗ has c arg9 (TableOK X3)
        ∗ has c arg10 (TableOK X4) ∗ (∃ d, owns (c : Thread nD τ) arg11 fullShare d)
        ∗ (∃ d, owns (c : Thread nD τ) arg12 fullShare d)
              ∗ ∃ W', owes (c : Thread nD τ) 0 W') -∗ K ⟨⟩))
      ⊢ wp frame (wpE (defs₀ (F := Ideal)) Variants.none c none) Set.univ
          (cc0_qwz_linear (F := Ideal) i arg1 harg1 arg2 harg2 arg3 harg3 arg4 harg4 arg5 harg5 arg6 harg6 arg7 harg7 arg8 harg8 arg9 harg9 arg10 harg10 arg11 harg11 arg12 harg12) K := by
  simp only [cc0_qwz_linear_eq_skeleton]; unfold cc0_qwz_linear_skel
  unfold has owns
  iintro ⟨⟨%f1, %h1, H1⟩, ⟨%f2, %h2, H2⟩, ⟨%f3, %h3, H3⟩, ⟨%f4, %h4, H4⟩, ⟨%d5, %f5, -, H5⟩, ⟨%d6, ⟨%f6, %e6, H6⟩, %p6⟩, ⟨%d7, %f7, -, H7⟩,
    ⟨%d8, %f8, -, H8⟩, ⟨%d9, ⟨%f9, %e9, H9⟩, %p9⟩, ⟨%d10, ⟨%f10, %e10, H10⟩, %p10⟩, ⟨%d11, %f11, -, H11⟩, ⟨%d12, %f12, -, H12⟩, HO, Hk⟩
  by_cases hc : k0_cond1 i = 1#1
  on_goal 1 =>
    simp only [dif_pos hc]
    sl_exec
    sl_for (fun k _ => Inv1 c arg1 arg6 X1 k) $$ [H1 H6]
    case region =>
      intro k _
      exact step1 c i arg1 harg1 arg2 harg2 arg3 harg3 arg4 harg4 arg5 harg5 arg6 harg6 arg7 harg7 arg8 harg8 arg9 harg9 arg10 harg10 arg11 harg11 arg12 harg12 X1 hc k
    · isplitl [H1]
      · iexists _
        isplitl [H1]; · iexact H1
        ipureintro; exact h1
      · iexists _
        isplitl [H6]; · iexact H6
        ipureintro; intro y hy; omega
    iintro %_ HI
    icases HI with ⟨⟨%f1, H1, %h1⟩, ⟨%f6, H6, %h6⟩⟩
    sl_exec
    sl_for (fun k _ => Inv2 c arg3 arg4 arg7 X3 X4 k) $$ [H3 H4 H7]
    case region =>
      intro k _
      exact step2 c i arg1 harg1 arg2 harg2 arg3 harg3 arg4 harg4 arg5 harg5 arg6 harg6 arg7 harg7 arg8 harg8 arg9 harg9 arg10 harg10 arg11 harg11 arg12 harg12 _ X3 X4 hc k
    · isplitl [H3]
      · iexists _
        isplitl [H3]; · iexact H3
        ipureintro; exact h3
      isplitl [H4]
      · iexists _
        isplitl [H4]; · iexact H4
        ipureintro; exact h4
      · iexists _
        isplitl [H7]; · iexact H7
        ipureintro
        sl_unfold_run_names
        intro y
        refine (read_whole (e := .f32) arg7.view _ _ zero3 _ _ y).trans ((pay32_apply _ y).trans ?_)
        rw [if_neg (Nat.not_lt_zero _)]
        exact Ideal.ofBits_zero_f32
    iintro %_ HI
    icases HI with ⟨⟨%f3, H3, %h3⟩, ⟨%f4, H4, %h4⟩, ⟨%f7, H7, %h7⟩⟩
    sl_exec
    sl_for (fun k _ => Inv3 c arg8 arg9 arg10 X3 X4 k) $$ [H8 H9 H10]
    case region =>
      intro k _
      exact step3 c i arg1 harg1 arg2 harg2 arg3 harg3 arg4 harg4 arg5 harg5 arg6 harg6 arg7 harg7 arg8 harg8 arg9 harg9 arg10 harg10 arg11 harg11 arg12 harg12 hc X3 X4 k
    · isplitl [H8]
      · iexists _
        isplitl [H8]; · iexact H8
        ipureintro
        sl_unfold_run_names
        have hF := flat_last X3 X4 arg3.view arg4.view f3 f4 h3 h4 arg7.view f7 h7 inb_S2x128x128_S1x1x48_0_84_0 inb_S2x128x128_S1x1x48_1_84_0
          inb_S10800_S48_10752 inb_S10800_S48_10752
        exact ext_ok X3 X4 _ _ (load7 arg7.view _ hF 0 _ rfl _) (load7 arg7.view _ hF 1 _ rfl _) arg8.view _ _ _
      isplitl [H9]
      · iexists _
        isplitl [H9]; · iexact H9
        ipureintro; intro y hy; exact absurd hy (Nat.not_lt_zero _)
      · iexists _
        isplitl [H10]; · iexact H10
        ipureintro; intro y hy; exact absurd hy (Nat.not_lt_zero _)
    iintro %_ HI
    icases HI with ⟨⟨%f8, H8, %h8⟩, ⟨%f9, H9, %h9⟩, ⟨%f10, H10, %h10⟩⟩
    have h9 := table_all X3 _ h9
    have h10 := table_all X4 _ h10
    have h6 := xp_last X1 arg1.view f1 h1 arg6.view f6 h6 inb_S128x2x2944_S128x2x128_0_0_2816 inb_S256x2880_S256x64_0_2816
    sl_exec
  on_goal 2 =>
    simp only [dif_neg hc]
    have h6 : XPOK X1 (arg6.view.read (Elt Ideal) f6) := by rw [e6]; exact p6 hc
    have h9 : TableOK X3 (arg9.view.read (Elt Ideal) f9) := by rw [e9]; exact p9 hc
    have h10 : TableOK X4 (arg10.view.read (Elt Ideal) f10) := by rw [e10]; exact p10 hc
    sl_exec
  all_goals
    sl_for (fun k _ => Inv4 c i arg9 arg10 arg11 arg12 X2 X3 X4 k) $$ [H9 H10 H11 H12]
    case region =>
      intro k _
      exact step4 c i arg1 harg1 arg2 harg2 arg3 harg3 arg4 harg4 arg5 harg5 arg6 harg6 arg7 harg7 arg8 harg8 arg9 harg9 arg10 harg10 arg11 harg11 arg12 harg12 _ X2 X3 X4 k
    · sl_unfold_run_names
      isplitl [H9]
      · iexists _
        isplitl [H9]; · iexact H9
        ipureintro; exact h9
      isplitl [H10]
      · iexists _
        isplitl [H10]; · iexact H10
        ipureintro; exact h10
      isplitl [H11]
      · iexists _
        isplitl [H11]; · iexact H11
        ipureintro; intro y hy; exact absurd hy (Nat.not_lt_zero _)
      · iexists _
        isplitl [H12]; · iexact H12
        ipureintro
        exact words_ok X2 arg2.view f2 h2 arg12.view _ _ _
    iintro %_ HI
    icases HI with ⟨⟨%f9, H9, %h9⟩, ⟨%f10, H10, %h10⟩, ⟨%f11, H11, %h11⟩, ⟨%f12, H12, %h12⟩⟩
    sl_exec
    sl_step
    sl_unfold_run_names
    iapply Hk
    isplitl [H1]
    · iexists _
      isplitr; swap; · iexact H1
      ipureintro; exact h1
    isplitl [H2]
    · iexists _
      isplitr; swap; · iexact H2
      ipureintro; exact h2
    isplitl [H3]
    · iexists _
      isplitr; swap; · iexact H3
      ipureintro; exact h3
    isplitl [H4]
    · iexists _
      isplitr; swap; · iexact H4
      ipureintro; exact h4
    isplitl [H5]
    · iexists _
      isplitr; swap; · iexact H5
      ipureintro; exact out_ok X1 X2 X3 X4 (i 0).val arg6.view _ h6 arg11.view f11 h11 arg5.view _ _ _ _
    isplitl [H6]
    · iexists _
      isplitl [H6]
      · iexists _
        isplitr; swap; · iexact H6
        ipureintro; rfl
      · ipureintro; exact h6
    isplitl [H7]
    · iexists _, _
      isplitr; swap; · iexact H7
      ipureintro; rfl
    isplitl [H8]
    · iexists _, _
      isplitr; swap; · iexact H8
      ipureintro; rfl
    isplitl [H9]
    · iexists _
      isplitl [H9]
      · iexists _
        isplitr; swap; · iexact H9
        ipureintro; rfl
      · ipureintro; exact h9
    isplitl [H10]
    · iexists _
      isplitl [H10]
      · iexists _
        isplitr; swap; · iexact H10
        ipureintro; rfl
      · ipureintro; exact h10
    isplitl [H11]
    · iexists _, _
      isplitr; swap; · iexact H11
      ipureintro; rfl
    isplitl [H12]
    · iexists _, _
      isplitr; swap; · iexact H12
      ipureintro; rfl
    iexists _
    iexact HO

end Cert.KernelIdeal.Hand
-- ==== Proof.IdealRun.lean ====
/- Hand-written. The whole launch over the idealized numbers: every grid point leaves its block of sums, so the result array is
   one function of the arrays the region finds. -/
module

public import proofs.«01_k».proof.Proof.IdealBody
public import Idealize.ShloMosaic.Lib.Pipeline.Value

@[expose] public section

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The activations as the region finds them. -/
def XA (c : Dev nD) : S256x2880.Idx → EReal := V m c main_v0
/-- The codes as the region finds them. -/
def CA (c : Dev nD) : S2880x15x4x128.Idx → BitVec 8 := V m c main_v1
/-- The scales as the region finds them. -/
def SA (c : Dev nD) : S10800.Idx → EReal := V m c main_arg2
/-- The offsets as the region finds them. -/
def OA (c : Dev nD) : S10800.Idx → EReal := V m c main_arg3

theorem coords_val : ∀ t : Fin cfg0.N, ((grid0.coords t) 0).val = t.val := by decide +kernel
theorem cond_iff : ∀ t : Fin cfg0.N, k0_cond1 (grid0.coords t) = 1#1 ↔ t.val = 0 := by decide +kernel

/-- The activations' block is the whole array at every point. -/
theorem iblk0_eq (c : Dev nD) (t : Fin cfg0.N) : iblk m c 0 t = XA m c := by
  have h : ∀ a, win0_0.index t a * win0_0.size a = 0 := by revert t; decide +kernel
  funext x
  show V m c main_v0 ((win0_0.rect t).emb x) = V m c main_v0 x
  congr 1
  funext a
  apply Fin.ext
  show win0_0.index t a * win0_0.size a + 1 * (x a).val = (x a).val
  rw [h a]; omega
/-- The scales' block is the whole array at every point. -/
theorem iblk2_eq (c : Dev nD) (t : Fin cfg0.N) : iblk m c 2 t = SA m c := by
  have h : ∀ a, win0_2.index t a * win0_2.size a = 0 := by revert t; decide +kernel
  funext x
  show V m c main_arg2 ((win0_2.rect t).emb x) = V m c main_arg2 x
  congr 1
  funext a
  apply Fin.ext
  show win0_2.index t a * win0_2.size a + 1 * (x a).val = (x a).val
  rw [h a]; omega
/-- The offsets' block is the whole array at every point. -/
theorem iblk3_eq (c : Dev nD) (t : Fin cfg0.N) : iblk m c 3 t = OA m c := by
  have h : ∀ a, win0_3.index t a * win0_3.size a = 0 := by revert t; decide +kernel
  funext x
  show V m c main_arg3 ((win0_3.rect t).emb x) = V m c main_arg3 x
  congr 1
  funext a
  apply Fin.ext
  show win0_3.index t a * win0_3.size a + 1 * (x a).val = (x a).val
  rw [h a]; omega
theorem point_lt (t : Fin cfg0.N) : t.val < 15 := lt_of_lt_of_eq t.isLt N_0

theorem index1 : ∀ (t : Fin cfg0.N) (a : Fin 4), win0_1.index t a * win0_1.size a = if a = 1 then t.val else 0 := by decide +kernel

/-- The codes' block at a point is that group of columns. -/
theorem iblk1_at (c : Dev nD) (t : Fin cfg0.N) (x : S2880x1x4x128.Idx) (y : S2880x15x4x128.Idx)
    (hy : ∀ a : Fin 4, (y a).val = (if a = 1 then t.val else 0) + (x a).val) : (iblk m c 1 t : S2880x1x4x128.Idx → BitVec 8) x = CA m c y := by
  unfold CA
  show V m c main_v1 ((win0_1.rect t).emb x) = V m c main_v1 y
  congr 1
  funext b
  apply Fin.ext
  show win0_1.index t b * win0_1.size b + 1 * (x b).val = (y b).val
  rw [index1 t b, hy b, Nat.one_mul]

/-- The codes' block at a point is that group of columns. -/
theorem iblk1_apply (c : Dev nD) (t : Fin cfg0.N) (k : Fin 2880) (a : Fin 4) (l : Fin 128) :
    (iblk m c 1 t : S2880x1x4x128.Idx → BitVec 8) (ix4 k 0 a l) = CA m c (ix4 k ⟨t.val, point_lt t⟩ a l) := by
  refine iblk1_at m c t _ _ fun b => ?_
  match b with
  | ⟨0, _⟩ => exact (Nat.zero_add _).symm
  | ⟨1, _⟩ => exact (Nat.add_zero _).symm
  | ⟨2, _⟩ => exact (Nat.zero_add _).symm
  | ⟨3, _⟩ => exact (Nat.zero_add _).symm

/-- What the scratch buffers hold before point `t`: from the second point on, the activations permuted and the two tables. -/
def Track (c : Dev nD) (t : ℕ) : sProp 𝕄 :=
  iprop(iprop(has c (Memref.whole cc0_scratch0) (fun d => 0 < t → XPOK (XA m c) d) ∗ (∃ d, owns (c : Thread nD τ) (Memref.whole cc0_scratch1) fullShare d)
          ∗ (∃ d, owns (c : Thread nD τ) (Memref.whole cc0_scratch2) fullShare d) ∗ has c (Memref.whole cc0_scratch3) (fun d => 0 < t → TableOK (SA m c) d)
          ∗ has c (Memref.whole cc0_scratch4) (fun d => 0 < t → TableOK (OA m c) d) ∗ (∃ d, owns (c : Thread nD τ) (Memref.whole cc0_scratch5) fullShare d)
          ∗ (∃ d, owns (c : Thread nD τ) (Memref.whole cc0_scratch6) fullShare d)) ∗ (∃ r, prngReg c r))

/-- The proof data on core `c`: the windows' arrays as the region finds them, each input's block left in place, the output's
    block at its sums. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outBlk (XA m c) (iblk m c 1 t) (SA m c) (OA m c) ((grid0.coords t) 0).val
    | ⟨n + 5, h⟩ => absurd h (Nat.not_lt.2 (Nat.le_add_left _ _))
  Φ t := Track m c t.val
  q _ := fullShare
  owed _ := 0

theorem A_eq (c : Dev nD) (w : Fin cfg0.W) : (dats m 0 c).A w = V m c (Pipeline.arrRef spec0 w) := by dsimp only [dats]

/-- The class invariant, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d)) ∗ (∃ r, prngReg c r)) := by
  unfold Pipeline.ΦA; rw [scopedRest0_eq]; simp only [owns_whole]; try rfl

/-- Before the first point the scratch buffers hold anything. -/
theorem track_in (c : Dev nD) : Pipeline.ΦA spec0 c ⊢ Track m c 0 := by
  rw [PhiA0_eq]
  unfold Track has
  iintro ⟨⟨⟨%d0, S0⟩, S1, S2, ⟨%d3, S3⟩, ⟨%d4, S4⟩, S5, S6⟩, Hg⟩
  isplitl [S0 S1 S2 S3 S4 S5 S6]
  · isplitl [S0]
    · iexists d0
      isplitl [S0]; · iexact S0
      ipureintro; intro h; exact absurd h (Nat.lt_irrefl 0)
    isplitl [S1]; · iexact S1
    isplitl [S2]; · iexact S2
    isplitl [S3]
    · iexists d3
      isplitl [S3]; · iexact S3
      ipureintro; intro h; exact absurd h (Nat.lt_irrefl 0)
    isplitl [S4]
    · iexists d4
      isplitl [S4]; · iexact S4
      ipureintro; intro h; exact absurd h (Nat.lt_irrefl 0)
    isplitl [S5]; · iexact S5
    iexact S6
  iexact Hg

/-- At any point, what the scratch buffers hold may be forgotten. -/
theorem track_out (c : Dev nD) (t : ℕ) : Track m c t ⊢ Pipeline.ΦA spec0 c := by
  rw [PhiA0_eq]
  unfold Track has
  iintro ⟨⟨⟨%d0, S0, -⟩, S1, S2, ⟨%d3, S3, -⟩, ⟨%d4, S4, -⟩, S5, S6⟩, Hg⟩
  isplitl [S0 S1 S2 S3 S4 S5 S6]
  · isplitl [S0]; · iexists d0; iexact S0
    isplitl [S1]; · iexact S1
    isplitl [S2]; · iexact S2
    isplitl [S3]; · iexists d3; iexact S3
    isplitl [S4]; · iexists d4; iexact S4
    isplitl [S5]; · iexact S5
    iexact S6
  iexact Hg

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point: the invariant opened, the body's run, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t]
  rw [show (dats m 0 c).Φ t.succ = Track m c (t.val + 1) from rfl,
    show (dats m 0 c).owesAt () t.succ = (dats m 0 c).owesAt () t.castSucc from rfl,
    show (dats m 0 c).Φ t.castSucc = Track m c t.val from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = outBlk (XA m c) (iblk m c 1 t) (SA m c) (OA m c) ((grid0.coords t) 0).val from rfl,
    iblk0_eq, iblk2_eq, iblk3_eq]
  unfold Dat.owesAt Pipeline.owesWithin Track
  rw [show (dats m 0 c).owed t.castSucc = 0 from rfl]
  have hpos : ¬ k0_cond1 (grid0.coords t) = 1#1 → 0 < t.val := fun h => Nat.pos_of_ne_zero fun e => h ((cond_iff t).mpr e)
  unfold has
  iintro ⟨⟨⟨⟨%e0, S0, %p0⟩, S1, S2, ⟨%e3, S3, %p3⟩, ⟨%e4, S4, %p4⟩, S5, S6⟩, Hg⟩, ⟨%W, %hW, HO⟩, ⟨%d0, H0⟩, ⟨%d1, H1⟩, ⟨%d2, H2⟩, ⟨%d3, H3⟩, ⟨%d4, H4⟩⟩
  iapply (bodyRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (XA m c) (iblk m c 1 t) (SA m c) (OA m c) W _)
  isplitl [H0]; · iexact H0
  isplitl [H1]; · iexact H1
  isplitl [H2]; · iexact H2
  isplitl [H3]; · iexact H3
  isplitl [H4]; · iexists _; iexact H4
  isplitl [S0]
  · iexists e0
    isplitl [S0]; · iexact S0
    ipureintro; exact fun h => p0 (hpos h)
  isplitl [S1]; · iexact S1
  isplitl [S2]; · iexact S2
  isplitl [S3]
  · iexists e3
    isplitl [S3]; · iexact S3
    ipureintro; exact fun h => p3 (hpos h)
  isplitl [S4]
  · iexists e4
    isplitl [S4]; · iexact S4
    ipureintro; exact fun h => p4 (hpos h)
  isplitl [S5]; · iexact S5
  isplitl [S6]; · iexact S6
  isplitl [HO]; · iexact HO
  iintro ⟨H0, H1, H2, H3, H4, ⟨%e0, S0, %p0⟩, S1, S2, ⟨%e3, S3, %p3⟩, ⟨%e4, S4, %p4⟩, S5, S6, ⟨%W', HO⟩⟩
  isplitl [S0 S1 S2 S3 S4 S5 S6 Hg]
  · isplitl [S0 S1 S2 S3 S4 S5 S6]
    · isplitl [S0]
      · iexists e0
        isplitl [S0]; · iexact S0
        ipureintro; exact fun _ => p0
      isplitl [S1]; · iexact S1
      isplitl [S2]; · iexact S2
      isplitl [S3]
      · iexists e3
        isplitl [S3]; · iexact S3
        ipureintro; exact fun _ => p3
      isplitl [S4]
      · iexists e4
        isplitl [S4]; · iexact S4
        ipureintro; exact fun _ => p4
      isplitl [S5]; · iexact S5
      iexact S6
    iexact Hg
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- The body table's row at a point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation: the triple restated. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- From any memory with zero counters every weakly fair execution of @main terminates with the arrays at the proof data's. -/
theorem run_main :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => track_in m c)
    (hout := fun c => track_out m c _)

end Cert.KernelIdeal.HandValue
-- ==== Proof.IdealSums.lean ====
/- Hand-written. The kernel sums over the rows in a permuted order and past the end of the weights; the sum is the plain one over
   the 2880 rows. -/
module

public import proofs.«01_k».proof.Proof.IdealBody

@[expose] public section

set_option maxRecDepth 16384

noncomputable section

namespace Cert.KernelIdeal.HandValue

open Cert.KernelIdeal Cert.KernelIdeal.Gen Cert.KernelIdeal.Hand
open Idealize.ShloMosaic

/-- Swapping a lane's two top bits with its two bottom bits twice gives the lane back. -/
theorem permLane_permLane : ∀ b : Fin 128, permLane (permLane b.val) = b.val := by unfold permLane; decide +kernel

theorem kOf_kOf (P : ℕ) : kOf (kOf P) = P := by
  unfold kOf
  have h1 := permLane_lt ⟨P % 128, Nat.mod_lt _ (by decide)⟩
  have h2 := permLane_permLane ⟨P % 128, Nat.mod_lt _ (by decide)⟩
  dsimp only at h1 h2
  have e1 : (128 * (P / 128) + permLane (P % 128)) / 128 = P / 128 := by omega
  have e2 : (128 * (P / 128) + permLane (P % 128)) % 128 = permLane (P % 128) := by omega
  rw [e1, e2, h2]
  omega

theorem kOf_lt (P : Fin 2944) : kOf P.val < 2944 := by
  have h1 := permLane_lt ⟨P.val % 128, Nat.mod_lt _ (by decide)⟩
  have := P.isLt
  unfold kOf
  dsimp only at h1
  omega

/-- The kernel's order of the padded rows, as a permutation. -/
def kPerm : Equiv.Perm (Fin 2944) where
  toFun P := ⟨kOf P.val, kOf_lt P⟩
  invFun P := ⟨kOf P.val, kOf_lt P⟩
  left_inv P := Fin.ext (kOf_kOf P.val)
  right_inv P := Fin.ext (kOf_kOf P.val)

/-- A sum over the padded rows in the kernel's order, of terms that are zero past the end, is the sum over the rows. -/
theorem sum_kOf (f : ℕ → EReal) (h0 : ∀ k, 2880 ≤ k → f k = 0) : ∑ P : Fin 2944, f (kOf P.val) = ∑ k : Fin 2880, f k.val := by
  have h1 : ∑ P : Fin 2944, f (kOf P.val) = ∑ P : Fin 2944, f P.val := Equiv.sum_comp kPerm (fun P : Fin 2944 => f P.val)
  rw [h1, Fin.sum_univ_eq_sum_range (fun k => f k) 2944, Fin.sum_univ_eq_sum_range (fun k => f k) 2880]
  refine (Finset.sum_subset (fun k hk => ?_) fun k _ hk => ?_).symm
  · exact Finset.mem_range.mpr (lt_trans (Finset.mem_range.mp hk) (by decide))
  · exact h0 k (not_lt.mp fun h => hk (Finset.mem_range.mpr h))

/-- The row of codes that the kernel reads is the row that it means wherever that row exists. -/
theorem row4_eq (P : ℕ) (h : kOf P < 2880) : row4 P = kOf P := by
  unfold row4
  split
  · rfl
  · rename_i hn
    exfalso
    unfold kOf permLane at h
    rw [show P % 128 % 4 = P % 4 by omega, show P % 128 % 32 = P % 32 by omega, show P % 128 / 32 = P / 32 % 4 from Nat.mod_mul_right_div_self P 32 4] at h
    have h1 : P / 32 % 4 < 4 := Nat.mod_lt _ (by decide)
    have h2 : P % 32 / 4 < 8 := by omega
    generalize P / 32 % 4 = a at *
    generalize P % 32 / 4 = b at *
    omega

theorem word_lt (k : Fin 2880) (g : Fin 15) : (15 * k.val + g.val) / 4 < 10800 := by have := k.isLt; have := g.isLt; omega

/-- A grid point's block of sums, as the plain contraction over the 2880 rows. -/
theorem outBlk_eq (X1 : S256x2880.Idx → EReal) (X2 : S2880x1x4x128.Idx → BitVec 8) (X3 X4 : S10800.Idx → EReal) (g : Fin 15)
    (r : Fin 256) (n : Fin 512) :
    outBlk X1 X2 X3 X4 g.val (ix2 r n)
      = ∑ k : Fin 2880, X1 (ix2 r k) * (FloatOps.uitofp (F := Ideal) .bf16 (X2 (ix4 k 0 ⟨n.val / 128, by omega⟩ ⟨n.val % 128, by omega⟩))
          * X3 (ix1 ⟨(15 * k.val + g.val) / 4, word_lt k g⟩) + X4 (ix1 ⟨(15 * k.val + g.val) / 4, word_lt k g⟩)) := by
  let f : ℕ → EReal := fun k => at2 X1 r k
    * (FloatOps.uitofp (F := Ideal) .bf16 (codeN X2 k n.val) * at1 X3 ((15 * k + g.val) / 4) + at1 X4 ((15 * k + g.val) / 4))
  have hf0 : ∀ k, 2880 ≤ k → f k = 0 := fun k hk => by
    show at2 X1 r k * _ = 0
    unfold at2
    rw [dif_neg (not_lt.mpr hk), zero_mul]
  have ht : ∀ P : Fin 2944, at2 X1 r (kOf P.val) * WVal X2 X3 X4 g.val P.val n.val = f (kOf P.val) := fun P => by
    by_cases h : kOf P.val < 2880
    · unfold WVal
      rw [row4_eq _ h]
    · rw [hf0 _ (not_lt.mp h)]
      unfold at2
      rw [dif_neg h, zero_mul]
  show ∑ P : Fin 2944, at2 X1 r (kOf P.val) * WVal X2 X3 X4 g.val P.val n.val = _
  rw [Finset.sum_congr rfl fun P _ => ht P, sum_kOf f hf0]
  refine Finset.sum_congr rfl fun k _ => ?_
  show at2 X1 r k.val * (FloatOps.uitofp (F := Ideal) .bf16 (codeN X2 k.val n.val) * at1 X3 ((15 * k.val + g.val) / 4)
    + at1 X4 ((15 * k.val + g.val) / 4)) = _
  unfold at2 at1 codeN
  rw [dif_pos k.isLt, dif_pos ⟨k.isLt, n.isLt⟩, dif_pos (word_lt k g), dif_pos (word_lt k g)]

end Cert.KernelIdeal.HandValue
-- ==== Proof.IdealValue.lean ====
/- Hand-written. The kernel's result array over the idealized numbers, as sums over the rows of the arrays it was launched with. -/
module

public import proofs.«01_k».proof.Proof.IdealRun
public import proofs.«01_k».proof.Proof.IdealSums
public import Idealize.ShloMosaic.Lib.StableHlo.Run

@[expose] public section

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One product of the contraction: row `r`, column `n`, contracted index `k`. -/
def term (X : S256x2880.Idx → EReal) (C : S2880x15x4x128.Idx → BitVec 8) (S O : S10800.Idx → EReal) (r : Fin 256) (n : Fin 7680) (k : Fin 2880) : EReal :=
  X (ix2 r k) * (FloatOps.uitofp (F := Ideal) .bf16 (C (ix4 k ⟨n.val / 512, by omega⟩ ⟨n.val % 512 / 128, by omega⟩ ⟨n.val % 512 % 128, by omega⟩))
    * S (ix1 ⟨(15 * k.val + n.val / 512) / 4, by omega⟩) + O (ix1 ⟨(15 * k.val + n.val / 512) / 4, by omega⟩))

/-- The contraction of the activations with the decoded weights, over the arrays the region finds. -/
def result (c : Dev nD) (y : S256x7680.Idx) : EReal := ∑ k : Fin 2880, term (XA m c) (CA m c) (SA m c) (OA m c) (y 0) (y 1) k

theorem index4 : ∀ (t : Fin cfg0.N) (a : Fin 2), win0_4.index t a * win0_4.size a = if a = 1 then 512 * t.val else 0 := by decide +kernel
theorem xsize4 : ∀ (t : Fin cfg0.N) (a : Fin 2), win0_4.xsize (grid0.coords t) a = if a = 1 then 512 else 256 := by decide +kernel

/-- A grid point's block of sums is the result at its 512 columns. -/
theorem block_result (c : Dev nD) (t : Fin cfg0.N) (r : Fin 256) (l : Fin 512) (n : Fin 7680) (hn : n.val = 512 * t.val + l.val) :
    outBlk (XA m c) (iblk m c 1 t) (SA m c) (OA m c) t.val (ix2 r l) = result m c (ix2 r n) := by
  rw [outBlk_eq (XA m c) (iblk m c 1 t) (SA m c) (OA m c) ⟨t.val, point_lt t⟩ r l]
  unfold result
  refine Finset.sum_congr rfl fun k _ => ?_
  have e1 : n.val / 512 = t.val := by omega
  have e2 : n.val % 512 = l.val := by omega
  rw [iblk1_apply m c t k]
  show _ = term (XA m c) (CA m c) (SA m c) (OA m c) r n k
  unfold term
  simp only [e1, e2]

/-- What point `t` writes back is its block of the result. -/
theorem flushed_eq (c : Dev nD) (t : Fin cfg0.N) :
    (dats m 0 c).flushed 4 t = (win0_4.blk t).view.read (Elt Ideal) (result m c) := by
  funext x
  show outBlk (XA m c) (iblk m c 1 t) (SA m c) (OA m c) ((grid0.coords t) 0).val x = result m c ((win0_4.rect t).emb x)
  rw [coords_val]
  have h0 : (x 0).val < 256 := lt_of_lt_of_eq (x 0).isLt (xsize4 t 0)
  have h1 : (x 1).val < 512 := lt_of_lt_of_eq (x 1).isLt (xsize4 t 1)
  have hn : 512 * t.val + (x 1).val < 7680 := by have := point_lt t; omega
  have hx : (x : S256x512.Idx) = ix2 ⟨(x 0).val, h0⟩ ⟨(x 1).val, h1⟩ := by
    funext a
    match a with
    | ⟨0, _⟩ => rfl
    | ⟨1, _⟩ => rfl
  have hy : ((win0_4.rect t).emb x : S256x7680.Idx) = ix2 ⟨(x 0).val, h0⟩ ⟨512 * t.val + (x 1).val, hn⟩ := by
    funext a
    apply Fin.ext
    show win0_4.index t a * win0_4.size a + 1 * (x a).val = _
    rw [index4 t a]
    match a with
    | ⟨0, _⟩ => show 0 + 1 * (x 0).val = (x 0).val; omega
    | ⟨1, _⟩ => show 512 * t.val + 1 * (x 1).val = 512 * t.val + (x 1).val; omega
  exact (congrArg (outBlk (XA m c) (iblk m c 1 t) (SA m c) (OA m c) t.val) hx).trans
    ((block_result m c t _ _ _ rfl).trans (congrArg (result m c) hy.symm))

/-- An index of the result array is in point `t`'s block exactly when its column is among the point's 512. -/
theorem mem_blk (t : Fin cfg0.N) (i : S256x7680.Idx) :
    i ∈ ((cfg0.win 4).blk t).view.set ↔ 512 * t.val ≤ (i 1).val ∧ (i 1).val < 512 * t.val + 512 := by
  show i ∈ ((View.whole main_v2).slice (win0_4.rect t)).set ↔ _
  rw [View.set_slice_whole, Rect.mem_set_unit]
  have h0 : (i 0).val < 256 := (i 0).isLt
  have key : ∀ a : Fin 2, (win0_4.index t a * win0_4.size a ≤ (i a).val ∧ (i a).val < win0_4.index t a * win0_4.size a + win0_4.xsize (grid0.coords t) a)
      ↔ ((if a = 1 then 512 * t.val else 0) ≤ (i a).val ∧ (i a).val < (if a = 1 then 512 * t.val else 0) + if a = 1 then 512 else 256) := fun a => by
    rw [index4 t a, xsize4 t a]
  refine ⟨fun h => (key 1).mp (h 1), fun h a => (key a).mpr ?_⟩
  match a with
  | ⟨0, _⟩ => exact ⟨Nat.zero_le _, lt_of_lt_of_eq h0 (Nat.zero_add _).symm⟩
  | ⟨1, _⟩ => exact h

/-- The points' blocks cover the result array. -/
theorem cover (i : S256x7680.Idx) : ∃ t : Fin cfg0.N, (cfg0.win 4).flush t = true ∧ i ∈ ((cfg0.win 4).blk t).view.set := by
  have h1 : (i 1).val < 7680 := (i 1).isLt
  have ht : (i 1).val / 512 < cfg0.N := by rw [show cfg0.N = 15 from N_0]; omega
  refine ⟨⟨(i 1).val / 512, ht⟩, flush0_4 _, ?_⟩
  rw [mem_blk]
  dsimp only
  omega

/-- So the result array ends holding the contraction. -/
theorem final_result (c : Dev nD) : (dats m 0 c).arrAt 4 cfg0.N = result m c :=
  (dats m 0 c).arrAt_eq_of_cover 4 (result m c) (fun t _ => flushed_eq m c t) cover

/-- The activations the region finds are the argument with its two leading axes joined. -/
theorem XA_eq (c : Dev nD) :
    XA m c = shapeCast (s := S2x128x2880) S256x2880 (m ((c : Thread nD τ).loc main_arg0)) shapeCasts_S2x128x2880_S256x2880 := by
  unfold XA V
  after_results <;> rfl
/-- The codes the region finds are the argument folded into rows and columns. -/
theorem CA_eq (c : Dev nD) :
    CA m c = shapeCast (s := S22118400) S2880x15x4x128 (m ((c : Thread nD τ).loc main_arg1)) shapeCasts_S22118400_S2880x15x4x128 := by
  unfold CA V
  after_results <;> rfl

/-- The run, read: the result array at the contraction, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1 4).trans (final_result m c),
       ((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩) (run_main m ρ)

end Cert.KernelIdeal.HandValue
-- ==== Proof.ReferenceSums.lean ====
/- Hand-written. The reference's result at an index, as a sum over the rows of products of an activation and a weight. -/
module

public import proofs.«01_k».proof.Proof.Gen.ReferenceIdeal.Run
public import Idealize.ShloMosaic.Lib.Pointwise
public import Idealize.ShloMosaic.Lib.Pipeline.Value

@[expose] public section

set_option maxRecDepth 16384

noncomputable section

namespace Cert.ReferenceIdeal.HandValue

open Cert.ReferenceIdeal Cert.ReferenceIdeal.Gen
open Idealize.ShloMosaic

/-- A code read as a signed word after it is widened is the code read as an unsigned byte. -/
theorem sitofp_code (b : BitVec 8) : FloatOps.sitofp (F := Ideal) .bf16 (b.setWidth 32) = FloatOps.uitofp (F := Ideal) .bf16 b := by
  show (((b.setWidth 32).toInt : ℝ) : EReal) = ((b.toNat : ℝ) : EReal)
  have h : (b.setWidth 32).toInt = (b.toNat : ℤ) := by
    have := b.isLt
    rw [BitVec.toInt_eq_toNat_cond, BitVec.toNat_setWidth]
    omega
  rw [h]
  norm_cast

theorem place_lt (k : Fin 2880) (n : Fin 7680) : 7680 * k.val + n.val < 22118400 := by have := k.isLt; have := n.isLt; omega
theorem block_lt (k : Fin 2880) (n : Fin 7680) : (7680 * k.val + n.val) / 2048 < 10800 := by have := k.isLt; have := n.isLt; omega

/-- The contraction of the activations with the decoded weights, at a row and a column. -/
def plain (x : S2x128x2880.Idx → EReal) (q : S22118400.Idx → BitVec 8) (s o : S10800.Idx → EReal) (r : Fin 256) (n : Fin 7680) : EReal :=
  ∑ k : Fin 2880, x (ix3 ⟨r.val / 128, by omega⟩ ⟨r.val % 128, by omega⟩ k)
    * (FloatOps.uitofp (F := Ideal) .bf16 (q (ix1 ⟨7680 * k.val + n.val, place_lt k n⟩))
      * s (ix1 ⟨(7680 * k.val + n.val) / 2048, block_lt k n⟩) + o (ix1 ⟨(7680 * k.val + n.val) / 2048, block_lt k n⟩))

/-- The reference's result at a row and a column. -/
theorem result_apply (x : FVec Ideal S2x128x2880 .bf16) (q : IVec S22118400 8) (s o : FVec Ideal S10800 .f32) (r : Fin 256) (n : Fin 7680) :
    shapeCast S256x7680 (truncf (F := Ideal) .bf16 (Host.dotGeneral (F := Ideal) (φ₁ := .bf16) (φ₂ := .f32)
      dot_S2x128x2880_S2880x7680_S2x128x7680_2_0_01_1_n_n none x
      (shapeCast S2880x7680 (addf (mulf (shapeCast S10800x2048 (sitofp (F := Ideal) .bf16 (extui 32 q natLt_8_32)) shapeCasts_S22118400_S10800x2048)
        (broadcastInDim S10800x2048 ![0, 1] bcast_S10800x1_S10800x2048_0_1
          (broadcastInDim S10800x1 ![0] bcast_S10800_S10800x1_0 (truncf .bf16 s bitsLt_bf16_f32))))
      (broadcastInDim S10800x2048 ![0, 1] bcast_S10800x1_S10800x2048_0_1
        (broadcastInDim S10800x1 ![0] bcast_S10800_S10800x1_0 (truncf .bf16 o bitsLt_bf16_f32)))) shapeCasts_S10800x2048_S2880x7680))
        bitsLt_bf16_f32) shapeCasts_S2x128x7680_S256x7680 (ix2 r n)
      = plain x q s o r n := by
  unfold plain
  pointwise
  simp only [sitofp_code, Nat.div_add_mod', Nat.mul_comm 7680]

end Cert.ReferenceIdeal.HandValue
-- ==== Proof.Agreement.lean ====
/- Hand-written. The value claim: over the idealized numbers the kernel and the reference end with the same result array. -/
module

public import proofs.«01_k».proof.Defs
public import proofs.«01_k».proof.Proof.IdealValue
public import proofs.«01_k».proof.Proof.ReferenceSums

@[expose] public section

set_option maxRecDepth 16384

noncomputable section

namespace Cert.Hand

open Idealize.ShloMosaic Idealize.ShloMosaic.TcCoe Idealize.SL.Sem
open Cert.KernelIdeal Cert.KernelIdeal.Gen Cert.KernelIdeal.HandValue

variable (m : (ℓ : Loc nD τ sig) → Buf (Elt Ideal) ℓ) (ρ : Dev nD → PrngReg)

/-- The activations the region finds, at a row and a contracted index. -/
theorem XA_apply (c : Dev nD) (r : Fin 256) (k : Fin 2880) :
    XA m c (ix2 r k) = (m ((c : Thread nD τ).loc main_arg0) : S2x128x2880.Idx → EReal) (ix3 ⟨r.val / 128, by omega⟩ ⟨r.val % 128, by omega⟩ k) := by
  rw [XA_eq]
  pointwise

/-- The codes the region finds, at a contracted index, a group of columns and a column in it. -/
theorem CA_apply (c : Dev nD) (k : Fin 2880) (g : Fin 15) (a : Fin 4) (l : Fin 128) :
    CA m c (ix4 k g a l) = (m ((c : Thread nD τ).loc main_arg1) : S22118400.Idx → BitVec 8)
      (ix1 ⟨7680 * k.val + 512 * g.val + 128 * a.val + l.val, by omega⟩) := by
  rw [CA_eq]
  refine shapeCast_apply _ _ _ _ ?_
  rw [Shape.rowMajor_val_one, Shape.rowMajor_val_four]
  show 7680 * k.val + 512 * g.val + 128 * a.val + l.val = ((k.val * 15 + g.val) * 4 + a.val) * 128 + l.val
  omega

/-- The kernel's result at a row and a column, over the arrays it was launched with. -/
theorem result_apply (c : Dev nD) (r : Fin 256) (n : Fin 7680) :
    result m c (ix2 r n)
      = Cert.ReferenceIdeal.HandValue.plain (m ((c : Thread nD τ).loc main_arg0)) (m ((c : Thread nD τ).loc main_arg1))
        (m ((c : Thread nD τ).loc main_arg2)) (m ((c : Thread nD τ).loc main_arg3)) r n := by
  show ∑ k : Fin 2880, term (XA m c) (CA m c) (SA m c) (OA m c) r n k = _
  unfold Cert.ReferenceIdeal.HandValue.plain
  refine Finset.sum_congr rfl fun k _ => ?_
  unfold term
  rw [XA_apply, CA_apply, show SA m c = m ((c : Thread nD τ).loc main_arg2) from V_main_arg2 m c,
    show OA m c = m ((c : Thread nD τ).loc main_arg3) from V_main_arg3 m c]
  have e1 : 7680 * k.val + 512 * (n.val / 512) + 128 * (n.val % 512 / 128) + n.val % 512 % 128 = 7680 * k.val + n.val := by omega
  have e2 : (15 * k.val + n.val / 512) / 4 = (7680 * k.val + n.val) / 2048 := by omega
  simp only [e1, e2]

set_option maxHeartbeats 800000 in
/-- The kernel and the reference, over the idealized numbers, end with the same result array from the same arguments. -/
theorem algebraic : Cert.algebraic_KernelIdeal_ReferenceIdeal := by
  intro m g m' g' _ hm
  refine ⟨fun c => result m c, HandValue.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := hm c
  rw [h0, h1, h2, h3]
  funext y
  rw [eq_ix2 y]
  exact (Cert.ReferenceIdeal.HandValue.result_apply _ _ _ _ _ _).trans (result_apply m c _ _).symm

end Cert.Hand
-- ==== Proof.KernelFrame.lean ====
/- Hand-written. The frame of `Kernel`: one grid point's body runs from any scratch contents to any, and the launch
   over the fifteen points leaves the argument arrays as they were. Nothing is said of the result here. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- A whole memref's buffer held at some contents. -/
abbrev some_ (c : Dev nD) {sp : Space} {S : Shape} {e : EltTy} (M : Memref sig .tc sp S e) : sProp 𝕄 :=
  iprop(∃ f : BufTy.Contents (Elt F) M.view.ty, M.view.loc (c : Thread nD τ) ↦[M.view.set]{fullShare} f)

/-- The invariant of the table loop: it reads the extended word table and writes the two tile tables. -/
@[sl_loop, instance_reducible] def loopInv_t3 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2944 .i32) (harg6 : arg6.IsWhole) (arg7 : Memref sig .tc .vmem S2x128x128 .f32) (harg7 : arg7.IsWhole) (arg8 : Memref sig .tc .vmem S256x128 .i32) (harg8 : arg8.IsWhole) (arg9 : Memref sig .tc .vmem S5520x128 .i32) (harg9 : arg9.IsWhole) (arg10 : Memref sig .tc .vmem S5520x128 .i32) (harg10 : arg10.IsWhole) (arg11 : Memref sig .tc .vmem S1472x512 .i32) (harg11 : arg11.IsWhole) (arg12 : Memref sig .tc .vmem S2880x128 .i32) (harg12 : arg12.IsWhole) (k0_h1 : k0_cond1 i = 1#1) (c_m65536_i32 : BitVec 32) (c0_i32_43 : BitVec 32) (c1_i32_44 : BitVec 32) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 k0_h1 c_m65536_i32 c0_i32_43 c1_i32_44 where
  inv := fun _ _ => iprop(some_ (F := F) c arg8 ∗ some_ (F := F) c arg9 ∗ some_ (F := F) c arg10)
  step := fun k _ => by
    unfold k0_t3_body
    iintro ⟨⟨%f8, H8⟩, ⟨%f9, H9⟩, ⟨%f10, H10⟩⟩
    sl_exec
    sl_step
    isplitl [H8]; · iexists _; iexact H8
    isplitl [H9]; · iexists _; iexact H9
    iexists _; iexact H10

/-- The invariant of the dequantization loop: it reads the code words and the two tile tables and writes the weights. -/
@[sl_loop, instance_reducible] def loopInv_t4 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2944 .i32) (harg6 : arg6.IsWhole) (arg7 : Memref sig .tc .vmem S2x128x128 .f32) (harg7 : arg7.IsWhole) (arg8 : Memref sig .tc .vmem S256x128 .i32) (harg8 : arg8.IsWhole) (arg9 : Memref sig .tc .vmem S5520x128 .i32) (harg9 : arg9.IsWhole) (arg10 : Memref sig .tc .vmem S5520x128 .i32) (harg10 : arg10.IsWhole) (arg11 : Memref sig .tc .vmem S1472x512 .i32) (harg11 : arg11.IsWhole) (arg12 : Memref sig .tc .vmem S2880x128 .i32) (harg12 : arg12.IsWhole) (arg0 : BitVec 32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 where
  inv := fun _ _ => iprop(some_ (F := F) c arg9 ∗ some_ (F := F) c arg10 ∗ some_ (F := F) c arg11 ∗ some_ (F := F) c arg12)
  step := fun k _ => by
    unfold k0_t4_body
    iintro ⟨⟨%f9, H9⟩, ⟨%f10, H10⟩, ⟨%f11, H11⟩, ⟨%f12, H12⟩⟩
    sl_exec
    sl_step
    isplitl [H9]; · iexists _; iexact H9
    isplitl [H10]; · iexists _; iexact H10
    isplitl [H11]; · iexists _; iexact H11
    iexists _; iexact H12

/-! ## The body, run once -/

/-- The body's triple for any continuation: from the four staged inputs at given contents and the output and the scratch
    at anything, the kernel runs to its return and hands back the inputs as they were, the rest at some contents. -/
theorem kernelRun (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2944 .i32) (harg6 : arg6.IsWhole) (arg7 : Memref sig .tc .vmem S2x128x128 .f32) (harg7 : arg7.IsWhole) (arg8 : Memref sig .tc .vmem S256x128 .i32) (harg8 : arg8.IsWhole) (arg9 : Memref sig .tc .vmem S5520x128 .i32) (harg9 : arg9.IsWhole) (arg10 : Memref sig .tc .vmem S5520x128 .i32) (harg10 : arg10.IsWhole) (arg11 : Memref sig .tc .vmem S1472x512 .i32) (harg11 : arg11.IsWhole) (arg12 : Memref sig .tc .vmem S2880x128 .i32) (harg12 : arg12.IsWhole)
    (X1 : S256x2880.Idx → Elt F .bf16) (X2 : S2880x1x4x128.Idx → Elt F .i8)
    (X3 : S10800.Idx → Elt F .f32) (X4 : S10800.Idx → Elt F .f32)
    (W : Waits sig Unit) (K : PUnit → sProp 𝕄) :
    iprop((owns (c : Thread nD τ) arg1 fullShare X1) ∗ (owns (c : Thread nD τ) arg2 fullShare X2)
        ∗ (owns (c : Thread nD τ) arg3 fullShare X3) ∗ (owns (c : Thread nD τ) arg4 fullShare X4)
        ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ owes (c : Thread nD τ) 0 W
        ∗ (iprop((owns (c : Thread nD τ) arg1 fullShare X1) ∗ (owns (c : Thread nD τ) arg2 fullShare X2)
        ∗ (owns (c : Thread nD τ) arg3 fullShare X3) ∗ (owns (c : Thread nD τ) arg4 fullShare X4)
        ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
              ∗ ∃ W', owes (c : Thread nD τ) 0 W') -∗ K ⟨⟩))
      ⊢ wp frame (wpE (defs₀ (F := F)) Variants.none c none) Set.univ
          (cc0_qwz_linear i arg1 harg1 arg2 harg2 arg3 harg3 arg4 harg4 arg5 harg5 arg6 harg6 arg7 harg7 arg8 harg8 arg9 harg9 arg10 harg10 arg11 harg11 arg12 harg12) K := by
  simp only [cc0_qwz_linear_eq_skeleton]; unfold cc0_qwz_linear_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, HO, Hk⟩
  by_cases hc : k0_cond1 i = 1#1
  · simp only [dif_pos hc]
    sl_exec
    sl_step
    iapply Hk
    isplitl [H1]
    · iexists _
      isplitr; swap; · iexact H1
      ipureintro; exact h1
    isplitl [H2]
    · iexists _
      isplitr; swap; · iexact H2
      ipureintro; exact h2
    isplitl [H3]
    · iexists _
      isplitr; swap; · iexact H3
      ipureintro; exact h3
    isplitl [H4]
    · iexists _
      isplitr; swap; · iexact H4
      ipureintro; exact h4
    isplitl [H5]
    · iexists _, _
      isplitr; swap; · iexact H5
      ipureintro; rfl
    isplitl [H6]
    · iexists _, _
      isplitr; swap; · iexact H6
      ipureintro; rfl
    isplitl [H7]
    · iexists _, _
      isplitr; swap; · iexact H7
      ipureintro; rfl
    isplitl [H8]
    · iexists _, _
      isplitr; swap; · iexact H8
      ipureintro; rfl
    isplitl [H9]
    · iexists _, _
      isplitr; swap; · iexact H9
      ipureintro; rfl
    isplitl [H10]
    · iexists _, _
      isplitr; swap; · iexact H10
      ipureintro; rfl
    isplitl [H11]
    · iexists _, _
      isplitr; swap; · iexact H11
      ipureintro; rfl
    isplitl [H12]
    · iexists _, _
      isplitr; swap; · iexact H12
      ipureintro; rfl
    iexists _; iexact HO
  · simp only [dif_neg hc]
    sl_exec
    sl_step
    iapply Hk
    isplitl [H1]
    · iexists _
      isplitr; swap; · iexact H1
      ipureintro; exact h1
    isplitl [H2]
    · iexists _
      isplitr; swap; · iexact H2
      ipureintro; exact h2
    isplitl [H3]
    · iexists _
      isplitr; swap; · iexact H3
      ipureintro; exact h3
    isplitl [H4]
    · iexists _
      isplitr; swap; · iexact H4
      ipureintro; exact h4
    isplitl [H5]
    · iexists _, _
      isplitr; swap; · iexact H5
      ipureintro; rfl
    isplitl [H6]
    · iexists _, _
      isplitr; swap; · iexact H6
      ipureintro; rfl
    isplitl [H7]
    · iexists _, _
      isplitr; swap; · iexact H7
      ipureintro; rfl
    isplitl [H8]
    · iexists _, _
      isplitr; swap; · iexact H8
      ipureintro; rfl
    isplitl [H9]
    · iexists _, _
      isplitr; swap; · iexact H9
      ipureintro; rfl
    isplitl [H10]
    · iexists _, _
      isplitr; swap; · iexact H10
      ipureintro; rfl
    isplitl [H11]
    · iexists _, _
      isplitr; swap; · iexact H11
      ipureintro; rfl
    isplitl [H12]
    · iexists _, _
      isplitr; swap; · iexact H12
      ipureintro; rfl
    iexists _; iexact HO

variable (m : (ℓ : Loc nD τ sig) → Buf (Elt F) ℓ) (ρ : Dev nD → PrngReg)

/-- The output window alone is forgotten: nothing here reads what the kernel leaves in it. -/
def forgets0 : Fin 5 → Bool := fun w => decide (w = 4)

/-- The proof data on core `c`: the windows' arrays as the region finds them, each input's block left in place, the
    invariant the class's own (scratch at anything). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The class invariant, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The body at a point: the invariant opened, the body's triple, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl,
    show (dats m 0 c).after 2 t = iblk m c 2 t from rfl, show (dats m 0 c).after 3 t = iblk m c 3 t from rfl]
  unfold Dat.owesAt Pipeline.owesWithin
  rw [show (dats m 0 c).owed t.castSucc = 0 from rfl]
  iintro ⟨⟨⟨S0, S1, S2, S3, S4, S5, S6⟩, Hg⟩, ⟨%W, %hW, HO⟩, ⟨%d0, H0⟩, ⟨%d1, H1⟩, ⟨%d2, H2⟩, ⟨%d3, H3⟩, H4⟩
  iapply (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (iblk m c 0 t) (iblk m c 1 t) (iblk m c 2 t) (iblk m c 3 t) W _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [HO]; · iexact HO
  iintro ⟨H0, H1, H2, H3, H4, S0, S1, S2, S3, S4, S5, S6, ⟨%W', HO⟩⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten: the triple restated. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates without a fault; in every final
    state the buffers no window stages are as at entry and every semaphore counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post: each argument array ends as launched, and every semaphore counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (h.1.arr_in c 2 rfl).trans ((A_eq m c 2).trans (V_main_arg2 m c)),
       (h.1.arr_in c 3 rfl).trans ((A_eq m c 3).trans (V_main_arg3 m c))⟩, h.2⟩) (run_main m ρ)

end Cert.Kernel.Hand

end
-- ==== Proof.KernelIdealFrame.lean ====
/- Hand-written. The frame of `KernelIdeal`: one grid point's body runs from any scratch contents to any, and the launch
   over the fifteen points leaves the argument arrays as they were. Nothing is said of the result here. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole memref's buffer held at some contents. -/
abbrev some_ (c : Dev nD) {sp : Space} {S : Shape} {e : EltTy} (M : Memref sig .tc sp S e) : sProp 𝕄 :=
  iprop(∃ f : BufTy.Contents (Elt F) M.view.ty, M.view.loc (c : Thread nD τ) ↦[M.view.set]{fullShare} f)

/-- The invariant of the table loop: it reads the extended word table and writes the two tile tables. -/
@[sl_loop, instance_reducible] def loopInv_t3 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (k0_h1 : k0_cond1 i = 1#1) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 k0_h1 where
  inv := fun _ _ => iprop(some_ (F := F) c arg8 ∗ some_ (F := F) c arg9 ∗ some_ (F := F) c arg10)
  step := fun k _ => by
    unfold k0_t3_body
    iintro ⟨⟨%f8, H8⟩, ⟨%f9, H9⟩, ⟨%f10, H10⟩⟩
    sl_exec
    sl_step
    isplitl [H8]; · iexists _; iexact H8
    isplitl [H9]; · iexists _; iexact H9
    iexists _; iexact H10

/-- The invariant of the dequantization loop: it reads the code words and the two tile tables and writes the weights. -/
@[sl_loop, instance_reducible] def loopInv_t4 (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole) (arg0 : BitVec 32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 where
  inv := fun _ _ => iprop(some_ (F := F) c arg9 ∗ some_ (F := F) c arg10 ∗ some_ (F := F) c arg11 ∗ some_ (F := F) c arg12)
  step := fun k _ => by
    unfold k0_t4_body
    iintro ⟨⟨%f9, H9⟩, ⟨%f10, H10⟩, ⟨%f11, H11⟩, ⟨%f12, H12⟩⟩
    sl_exec
    sl_step
    isplitl [H9]; · iexists _; iexact H9
    isplitl [H10]; · iexists _; iexact H10
    isplitl [H11]; · iexists _; iexact H11
    iexists _; iexact H12

/-! ## The body, run once -/

/-- The body's triple for any continuation: from the four staged inputs at given contents and the output and the scratch
    at anything, the kernel runs to its return and hands back the inputs as they were, the rest at some contents. -/
theorem kernelRun (c : Dev nD) (i : grid0.Coords) (arg1 : Memref sig .tc .vmem S256x2880 .bf16) (harg1 : arg1.IsWhole) (arg2 : Memref sig .tc .vmem S2880x1x4x128 .i8) (harg2 : arg2.IsWhole) (arg3 : Memref sig .tc .vmem S10800 .f32) (harg3 : arg3.IsWhole) (arg4 : Memref sig .tc .vmem S10800 .f32) (harg4 : arg4.IsWhole) (arg5 : Memref sig .tc .vmem S256x512 .bf16) (harg5 : arg5.IsWhole) (arg6 : Memref sig .tc .vmem S128x2x2944 .bf16) (harg6 : arg6.IsWhole) (arg7 : Memref sig .tc .vmem S2x128x128 .f32) (harg7 : arg7.IsWhole) (arg8 : Memref sig .tc .vmem S256x2x128 .bf16) (harg8 : arg8.IsWhole) (arg9 : Memref sig .tc .vmem S5520x2x128 .bf16) (harg9 : arg9.IsWhole) (arg10 : Memref sig .tc .vmem S5520x2x128 .bf16) (harg10 : arg10.IsWhole) (arg11 : Memref sig .tc .vmem S1472x2x512 .bf16) (harg11 : arg11.IsWhole) (arg12 : Memref sig .tc .vmem S2880x128 .i32) (harg12 : arg12.IsWhole)
    (X1 : S256x2880.Idx → Elt F .bf16) (X2 : S2880x1x4x128.Idx → Elt F .i8)
    (X3 : S10800.Idx → Elt F .f32) (X4 : S10800.Idx → Elt F .f32)
    (W : Waits sig Unit) (K : PUnit → sProp 𝕄) :
    iprop((owns (c : Thread nD τ) arg1 fullShare X1) ∗ (owns (c : Thread nD τ) arg2 fullShare X2)
        ∗ (owns (c : Thread nD τ) arg3 fullShare X3) ∗ (owns (c : Thread nD τ) arg4 fullShare X4)
        ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ owes (c : Thread nD τ) 0 W
        ∗ (iprop((owns (c : Thread nD τ) arg1 fullShare X1) ∗ (owns (c : Thread nD τ) arg2 fullShare X2)
        ∗ (owns (c : Thread nD τ) arg3 fullShare X3) ∗ (owns (c : Thread nD τ) arg4 fullShare X4)
        ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
              ∗ ∃ W', owes (c : Thread nD τ) 0 W') -∗ K ⟨⟩))
      ⊢ wp frame (wpE (defs₀ (F := F)) Variants.none c none) Set.univ
          (cc0_qwz_linear i arg1 harg1 arg2 harg2 arg3 harg3 arg4 harg4 arg5 harg5 arg6 harg6 arg7 harg7 arg8 harg8 arg9 harg9 arg10 harg10 arg11 harg11 arg12 harg12) K := by
  simp only [cc0_qwz_linear_eq_skeleton]; unfold cc0_qwz_linear_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, HO, Hk⟩
  by_cases hc : k0_cond1 i = 1#1
  · simp only [dif_pos hc]
    sl_exec
    sl_step
    iapply Hk
    isplitl [H1]
    · iexists _
      isplitr; swap; · iexact H1
      ipureintro; exact h1
    isplitl [H2]
    · iexists _
      isplitr; swap; · iexact H2
      ipureintro; exact h2
    isplitl [H3]
    · iexists _
      isplitr; swap; · iexact H3
      ipureintro; exact h3
    isplitl [H4]
    · iexists _
      isplitr; swap; · iexact H4
      ipureintro; exact h4
    isplitl [H5]
    · iexists _, _
      isplitr; swap; · iexact H5
      ipureintro; rfl
    isplitl [H6]
    · iexists _, _
      isplitr; swap; · iexact H6
      ipureintro; rfl
    isplitl [H7]
    · iexists _, _
      isplitr; swap; · iexact H7
      ipureintro; rfl
    isplitl [H8]
    · iexists _, _
      isplitr; swap; · iexact H8
      ipureintro; rfl
    isplitl [H9]
    · iexists _, _
      isplitr; swap; · iexact H9
      ipureintro; rfl
    isplitl [H10]
    · iexists _, _
      isplitr; swap; · iexact H10
      ipureintro; rfl
    isplitl [H11]
    · iexists _, _
      isplitr; swap; · iexact H11
      ipureintro; rfl
    isplitl [H12]
    · iexists _, _
      isplitr; swap; · iexact H12
      ipureintro; rfl
    iexists _; iexact HO
  · simp only [dif_neg hc]
    sl_exec
    sl_step
    iapply Hk
    isplitl [H1]
    · iexists _
      isplitr; swap; · iexact H1
      ipureintro; exact h1
    isplitl [H2]
    · iexists _
      isplitr; swap; · iexact H2
      ipureintro; exact h2
    isplitl [H3]
    · iexists _
      isplitr; swap; · iexact H3
      ipureintro; exact h3
    isplitl [H4]
    · iexists _
      isplitr; swap; · iexact H4
      ipureintro; exact h4
    isplitl [H5]
    · iexists _, _
      isplitr; swap; · iexact H5
      ipureintro; rfl
    isplitl [H6]
    · iexists _, _
      isplitr; swap; · iexact H6
      ipureintro; rfl
    isplitl [H7]
    · iexists _, _
      isplitr; swap; · iexact H7
      ipureintro; rfl
    isplitl [H8]
    · iexists _, _
      isplitr; swap; · iexact H8
      ipureintro; rfl
    isplitl [H9]
    · iexists _, _
      isplitr; swap; · iexact H9
      ipureintro; rfl
    isplitl [H10]
    · iexists _, _
      isplitr; swap; · iexact H10
      ipureintro; rfl
    isplitl [H11]
    · iexists _, _
      isplitr; swap; · iexact H11
      ipureintro; rfl
    isplitl [H12]
    · iexists _, _
      isplitr; swap; · iexact H12
      ipureintro; rfl
    iexists _; iexact HO

variable (m : (ℓ : Loc nD τ sig) → Buf (Elt F) ℓ) (ρ : Dev nD → PrngReg)

/-- The output window alone is forgotten: nothing here reads what the kernel leaves in it. -/
def forgets0 : Fin 5 → Bool := fun w => decide (w = 4)

/-- The proof data on core `c`: the windows' arrays as the region finds them, each input's block left in place, the
    invariant the class's own (scratch at anything). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The class invariant, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The body at a point: the invariant opened, the body's triple, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl, show (dats m 0 c).after 1 t = iblk m c 1 t from rfl,
    show (dats m 0 c).after 2 t = iblk m c 2 t from rfl, show (dats m 0 c).after 3 t = iblk m c 3 t from rfl]
  unfold Dat.owesAt Pipeline.owesWithin
  rw [show (dats m 0 c).owed t.castSucc = 0 from rfl]
  iintro ⟨⟨⟨S0, S1, S2, S3, S4, S5, S6⟩, Hg⟩, ⟨%W, %hW, HO⟩, ⟨%d0, H0⟩, ⟨%d1, H1⟩, ⟨%d2, H2⟩, ⟨%d3, H3⟩, H4⟩
  iapply (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (iblk m c 0 t) (iblk m c 1 t) (iblk m c 2 t) (iblk m c 3 t) W _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [HO]; · iexact HO
  iintro ⟨H0, H1, H2, H3, H4, S0, S1, S2, S3, S4, S5, S6, ⟨%W', HO⟩⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten: the triple restated. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates without a fault; in every final
    state the buffers no window stages are as at entry and every semaphore counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post: each argument array ends as launched, and every semaphore counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (h.1.arr_in c 2 rfl).trans ((A_eq m c 2).trans (V_main_arg2 m c)),
       (h.1.arr_in c 3 rfl).trans ((A_eq m c 3).trans (V_main_arg3 m c))⟩, h.2⟩) (run_main m ρ)

end Cert.KernelIdeal.Hand

end
-- ==== Proof.lean ====
module

public import proofs.«01_k».proof.Defs
public import proofs.«01_k».proof.Proof.Claims
public import proofs.«01_k».proof.Proof.Agreement
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

namespace Cert.Proof

open Idealize.ShloMosaic Idealize.SL.Sem

/-- The claims, in the order they are stated. -/
theorem claim : Cert.Claim :=
  ⟨Cert.Kernel.Gen.facts, Cert.KernelIdeal.Gen.facts, Cert.ReferenceIdeal.Gen.facts,
   fun m ρ _ => Cert.Kernel.Hand.frame_run m ρ,
   fun m ρ _ => Cert.KernelIdeal.Hand.frame_run m ρ,
   fun m ρ _ => (θ_run Cert.ReferenceIdeal.defs _ _).mono (fun r h => ⟨fun c => (h c).2, Idealize.ShloMosaic.sem_eq_zero_of_no_sems (by decide) r.2⟩)
     (Cert.ReferenceIdeal.Value.run (F := Ideal) m ρ),
   Cert.Hand.preserves,
   Cert.Hand.algebraic⟩

end Cert.Proof

end
